-- ==== Defs.lean ====
def Pre_Kernel [hPre_positive : Cert.Pre_positive.Facts] (m : (ℓ : Loc Cert.Kernel.nD Cert.Kernel.τ Cert.Kernel.sig) → Buf (Elt Bits) ℓ) : Prop :=
  ∀ c : Dev Cert.Kernel.nD,
    (Cert.Pre_positive.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_positive : Cert.Pre_positive.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel) (hPre_positive := hPre_positive)
    ∧ quiescent_KernelIdeal (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal (hKernelIdeal := hKernelIdeal) (hReferenceIdeal := hReferenceIdeal) (hPre_positive := hPre_positive)
-- ==== Pre_positive.lean ====
abbrev S20x1152x1536 : Shape := ⟨3, ![20, 1152, 1536]⟩
abbrev S20x1152x8960 : Shape := ⟨3, ![20, 1152, 8960]⟩
abbrev S20x1152 : Shape := ⟨2, ![20, 1152]⟩
abbrev S8960x1536 : Shape := ⟨2, ![8960, 1536]⟩
abbrev S1536 : Shape := ⟨1, ![1536]⟩
abbrev S20 : Shape := ⟨1, ![20]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel

variable [Facts]

def fn {F : FTy → Type} [FloatOps F] (main_arg0 : FVec F S20x1152x1536 .bf16) (main_arg1 : FVec F S20x1152x8960 .fp8e4m3) (main_arg2 : FVec F S20x1152 .f32) (main_arg3 : FVec F S8960x1536 .fp8e4m3) (main_arg4 : FVec F S1536 .f32) (main_arg5 : FVec F S1536 .f32) (main_arg6 : FVec F S1536 .f32) (main_arg7 : FVec F S1536 .f32) (main_arg8 : IVec S20 32) : IVec S_ 1 :=
  let main_c : IVec S_ 32 := constantI S_ 32 1#32
  let main_v0 : IVec S20 32 := broadcastInDim S20 ![] bcast_S_S20 main_c
  let main_v1 : IVec S20 1 := cmpi .sge main_arg8 main_v0
  let main_c_0 : IVec S_ 1 := constantI S_ 1 1#1
  let main_v2 : IVec S_ 1 := (fun x v => Host.reduce IntOp.andi x v reducesTo_S20_S_d0 h_S_) main_v1 main_c_0
  main_v2
-- ==== Kernel.lean ====
abbrev S20x1152x1536 : Shape := ⟨3, ![20, 1152, 1536]⟩
abbrev S20x1152x8960 : Shape := ⟨3, ![20, 1152, 8960]⟩
abbrev S20x1152 : Shape := ⟨2, ![20, 1152]⟩
abbrev S8960x1536 : Shape := ⟨2, ![8960, 1536]⟩
abbrev S1536 : Shape := ⟨1, ![1536]⟩
abbrev S20 : Shape := ⟨1, ![20]⟩
abbrev S1x1536 : Shape := ⟨2, ![1, 1536]⟩
abbrev S20x1x1536 : Shape := ⟨3, ![20, 1, 1536]⟩
abbrev S20x1x128 : Shape := ⟨3, ![20, 1, 128]⟩
abbrev S1x128x1536 : Shape := ⟨3, ![1, 128, 1536]⟩
abbrev S1 : Shape := ⟨1, ![1]⟩
abbrev S1x128x8960 : Shape := ⟨3, ![1, 128, 8960]⟩
abbrev S1x1x1536 : Shape := ⟨3, ![1, 1, 1536]⟩
abbrev S1x1x128 : Shape := ⟨3, ![1, 1, 128]⟩
abbrev S8x1536 : Shape := ⟨2, ![8, 1536]⟩
abbrev S1152x128 : Shape := ⟨2, ![1152, 128]⟩
abbrev S20x128 : Shape := ⟨2, ![20, 128]⟩
abbrev S108x128 : Shape := ⟨2, ![108, 128]⟩
abbrev S128x128 : Shape := ⟨2, ![128, 128]⟩
abbrev S128x8960 : Shape := ⟨2, ![128, 8960]⟩
abbrev S128x1536 : Shape := ⟨2, ![128, 1536]⟩
abbrev S128 : Shape := ⟨1, ![128]⟩
abbrev S128x1 : Shape := ⟨2, ![128, 1]⟩
abbrev S16x8x1536 : Shape := ⟨3, ![16, 8, 1536]⟩
abbrev S1x1 : Shape := ⟨2, ![1, 1]⟩
abbrev S1x128 : Shape := ⟨2, ![1, 128]⟩
abbrev S20x1536 : Shape := ⟨2, ![20, 1536]⟩
abbrev S20x1x1 : Shape := ⟨3, ![20, 1, 1]⟩

abbrev nBuf : Space → Nat
  | .hbm => 20
  | .vmem => 20
  | .smem => 1
  | _ => 0

abbrev bufTy : (tb : Table) → Fin (tcTables nBuf tb) → BufTy
  | .hbm, ⟨0, _⟩ => ⟨S20x1152x1536, .bf16⟩
  | .hbm, ⟨1, _⟩ => ⟨S20x1152x8960, .fp8e4m3⟩
  | .hbm, ⟨2, _⟩ => ⟨S20x1152, .f32⟩
  | .hbm, ⟨3, _⟩ => ⟨S8960x1536, .fp8e4m3⟩
  | .hbm, ⟨4, _⟩ => ⟨S1536, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S20x1152x1536, .f32⟩
  | .hbm, ⟨13, _⟩ => ⟨S20x1x1536, .f32⟩
  | .hbm, ⟨14, _⟩ => ⟨S20x1x1536, .i8⟩
  | .hbm, ⟨15, _⟩ => ⟨S20x1x128, .f32⟩
  | .hbm, ⟨16, _⟩ => ⟨S20x1536, .f32⟩
  | .hbm, ⟨17, _⟩ => ⟨S20x1536, .i8⟩
  | .hbm, ⟨18, _⟩ => ⟨S20x1x1, .f32⟩
  | .hbm, ⟨19, _⟩ => ⟨S20, .f32⟩
  | .local _ .vmem, ⟨0, _⟩ => ⟨S20x1152, .f32⟩
  | .local _ .vmem, ⟨1, _⟩ => ⟨S1x128x1536, .bf16⟩
  | .local _ .vmem, ⟨2, _⟩ => ⟨S1x128x1536, .bf16⟩
  | .local _ .vmem, ⟨3, _⟩ => ⟨S1x128x8960, .fp8e4m3⟩
  | .local _ .vmem, ⟨4, _⟩ => ⟨S1x128x8960, .fp8e4m3⟩
  | .local _ .vmem, ⟨5, _⟩ => ⟨S8960x1536, .fp8e4m3⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x1x1536, .f32⟩
  | .local _ .vmem, ⟨13, _⟩ => ⟨S1x1x1536, .f32⟩
  | .local _ .vmem, ⟨14, _⟩ => ⟨S1x1x1536, .i8⟩
  | .local _ .vmem, ⟨15, _⟩ => ⟨S1x1x1536, .i8⟩
  | .local _ .vmem, ⟨16, _⟩ => ⟨S1x1x128, .f32⟩
  | .local _ .vmem, ⟨17, _⟩ => ⟨S1x1x128, .f32⟩
  | .local _ .vmem, ⟨18, _⟩ => ⟨S8x1536, .f32⟩
  | .local _ .vmem, ⟨19, _⟩ => ⟨S1152x128, .f32⟩
  | .local _ .smem, ⟨0, _⟩ => ⟨S20, .i32⟩
  | _, _ => ⟨S20x1152x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![20, 9], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c128_i32_12 : BitVec 32 := 128#32
  let v25 : BitVec 32 := Scalar.muli arg1 c128_i32_12
  v25
def k0_off2 (i : grid0.Coords) : Fin 2 → Nat :=
  let arg1 : BitVec 32 := BitVec.ofNat 32 (i 1).val
  let c128_i32_12 : BitVec 32 := 128#32
  let v25 : BitVec 32 := Scalar.muli arg1 c128_i32_12
  let v26 : BitVec 32 := v25
  let v27 : Index := Scalar.indexCast v26
  let c0_13 : Index := 0#32
  ![v27.toNat, 0]
def k0_cond3 (i : grid0.Coords) (v1 : BitVec 32) : BitVec 1 :=
  let arg1 : BitVec 32 := BitVec.ofNat 32 (i 1).val
  let c128_i32 : BitVec 32 := 128#32
  let v10 : BitVec 32 := Scalar.muli arg1 c128_i32
  let v11 : BitVec 1 := Scalar.cmpi .sge v10 v1
  let v12 : BitVec 32 := Scalar.extui v11
  let c0_i32_4 : BitVec 32 := 0#32
  let v13 : BitVec 1 := Scalar.cmpi .ne v12 c0_i32_4
  v13

def k0_cond4 (i : grid0.Coords) (v1 : BitVec 32) : BitVec 1 :=
  let arg1 : BitVec 32 := BitVec.ofNat 32 (i 1).val
  let c128_i32_5 : BitVec 32 := 128#32
  let v14 : BitVec 32 := Scalar.muli arg1 c128_i32_5
  let v15 : BitVec 1 := Scalar.cmpi .slt v14 v1
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c8_i32 : BitVec 32 := 8#32
  let v18 : BitVec 1 := Scalar.cmpi .eq arg1 c8_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c1_i32 : BitVec 32 := 1#32
  let v2 : BitVec 32 := Scalar.subi v1 c1_i32
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, v20.toNat, c0_i32_5.toNat]

def cc0_transform_2 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c1_i32 : BitVec 32 := 1#32
  let v2 : BitVec 32 := Scalar.subi v1 c1_i32
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, v20.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8960 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1536 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S20x1152x1536 : Shape := ⟨3, ![20, 1152, 1536]⟩
abbrev S20x1152x8960 : Shape := ⟨3, ![20, 1152, 8960]⟩
abbrev S20x1152 : Shape := ⟨2, ![20, 1152]⟩
abbrev S8960x1536 : Shape := ⟨2, ![8960, 1536]⟩
abbrev S1536 : Shape := ⟨1, ![1536]⟩
abbrev S20 : Shape := ⟨1, ![20]⟩
abbrev S20x1536 : Shape := ⟨2, ![20, 1536]⟩
abbrev S20x1152x1 : Shape := ⟨3, ![20, 1152, 1]⟩
abbrev S1x1x1536 : Shape := ⟨3, ![1, 1, 1536]⟩
abbrev S1x1152 : Shape := ⟨2, ![1, 1152]⟩
abbrev S20x1 : Shape := ⟨2, ![20, 1]⟩

abbrev nBuf : Space → Nat
  | .hbm => 13
  | .vmem => 13
  | .smem => 0
  | _ => 0

abbrev bufTy : (tb : Table) → Fin (tcTables nBuf tb) → BufTy
  | .hbm, ⟨0, _⟩ => ⟨S20x1152x1536, .bf16⟩
  | .hbm, ⟨1, _⟩ => ⟨S20x1152x8960, .fp8e4m3⟩
  | .hbm, ⟨2, _⟩ => ⟨S20x1152, .f32⟩
  | .hbm, ⟨3, _⟩ => ⟨S8960x1536, .fp8e4m3⟩
  | .hbm, ⟨4, _⟩ => ⟨S1536, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S20, .i32⟩
  | .hbm, ⟨9, _⟩ => ⟨S20x1152x1536, .f32⟩
  | .hbm, ⟨10, _⟩ => ⟨S20x1536, .f32⟩
  | .hbm, ⟨11, _⟩ => ⟨S20x1536, .i8⟩
  | .hbm, ⟨12, _⟩ => ⟨S20, .f32⟩
  | .local _ .vmem, ⟨0, _⟩ => ⟨S20x1152x1536, .bf16⟩
  | .local _ .vmem, ⟨1, _⟩ => ⟨S20x1152x8960, .fp8e4m3⟩
  | .local _ .vmem, ⟨2, _⟩ => ⟨S20x1152, .f32⟩
  | .local _ .vmem, ⟨3, _⟩ => ⟨S8960x1536, .fp8e4m3⟩
  | .local _ .vmem, ⟨4, _⟩ => ⟨S1536, .f32⟩
  | .local _ .vmem, ⟨5, _⟩ => ⟨S1536, .f32⟩
  | .local _ .vmem, ⟨6, _⟩ => ⟨S1536, .f32⟩
  | .local _ .vmem, ⟨7, _⟩ => ⟨S1536, .f32⟩
  | .local _ .vmem, ⟨8, _⟩ => ⟨S20, .i32⟩
  | .local _ .vmem, ⟨9, _⟩ => ⟨S20x1152x1536, .f32⟩
  | .local _ .vmem, ⟨10, _⟩ => ⟨S20x1536, .f32⟩
  | .local _ .vmem, ⟨11, _⟩ => ⟨S20x1536, .i8⟩
  | .local _ .vmem, ⟨12, _⟩ => ⟨S20, .f32⟩
  | _, _ => ⟨S20x1152x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S20x1152x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1152x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x1152x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Base.lean ====
/- The frame kit of the kernel: @main around its region, the prefetched table, the windows' blocks, where each
   window is fetched and written back, the body's branch conditions, the staging and scratch memrefs. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg2)) is fetched at the first point only, at any contents of the tables (its index map reads none). -/
theorem fetch0_0 (a : (pcfg0 (F := F)).Adm) : ∀ t : Fin (cfg0 a).N, ((cfg0 a).win 0).fetch t = true ↔ t.val % 180 = 0 :=
  (fun t => Pipeline.Window.fetchOf_const cc0_transform_0 (fun _ _ => rfl) (n := 180) (by decide) t : ∀ t : Fin grid0.N, Pipeline.Window.fetchOf grid0 false cc0_transform_0 t = true ↔ t.val % 180 = 0)
-- window 1: no schedule fact — its index map reads a prefetched table, so where it is fetched or written back depends on the tables' contents
-- window 2: no schedule fact — its index map reads a prefetched table, so where it is fetched or written back depends on the tables' contents
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 180 = 0 :=
  (fun t => Pipeline.Window.fetchOf_const cc0_transform_3 (fun _ _ => rfl) (n := 180) (by decide) t : ∀ t : Fin grid0.N, Pipeline.Window.fetchOf grid0 false cc0_transform_3 t = true ↔ t.val % 180 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 180 = 0 :=
  (fun t => Pipeline.Window.fetchOf_const cc0_transform_4 (fun _ _ => rfl) (n := 180) (by decide) t : ∀ t : Fin grid0.N, Pipeline.Window.fetchOf grid0 false cc0_transform_4 t = true ↔ t.val % 180 = 0)
/-- Window 5 (operand 6 (%1)) is fetched at the first point only, at any contents of the tables (its index map reads none). -/
theorem fetch0_5 (a : (pcfg0 (F := F)).Adm) : ∀ t : Fin (cfg0 a).N, ((cfg0 a).win 5).fetch t = true ↔ t.val % 180 = 0 :=
  (fun t => Pipeline.Window.fetchOf_const cc0_transform_5 (fun _ _ => rfl) (n := 180) (by decide) t : ∀ t : Fin grid0.N, Pipeline.Window.fetchOf grid0 false cc0_transform_5 t = true ↔ t.val % 180 = 0)
/-- Window 6 (operand 7 (%2)) is fetched at the first point only, at any contents of the tables (its index map reads none). -/
theorem fetch0_6 (a : (pcfg0 (F := F)).Adm) : ∀ t : Fin (cfg0 a).N, ((cfg0 a).win 6).fetch t = true ↔ t.val % 180 = 0 :=
  (fun t => Pipeline.Window.fetchOf_const cc0_transform_6 (fun _ _ => rfl) (n := 180) (by decide) t : ∀ t : Fin grid0.N, Pipeline.Window.fetchOf grid0 false cc0_transform_6 t = true ↔ t.val % 180 = 0)
/-- Window 7 (operand 8 (%3)) is fetched at the first point only, at any contents of the tables (its index map reads none). -/
theorem fetch0_7 (a : (pcfg0 (F := F)).Adm) : ∀ t : Fin (cfg0 a).N, ((cfg0 a).win 7).fetch t = true ↔ t.val % 180 = 0 :=
  (fun t => Pipeline.Window.fetchOf_const cc0_transform_7 (fun _ _ => rfl) (n := 180) (by decide) t : ∀ t : Fin grid0.N, Pipeline.Window.fetchOf grid0 false cc0_transform_7 t = true ↔ t.val % 180 = 0)
/-- Window 8 (result 0 (%4#0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 1 (%4#1)) is written back at the points ≡ 8 (mod 9), at any contents of the tables (its index map reads none). -/
theorem flush0_9 (a : (pcfg0 (F := F)).Adm) : ∀ t : Fin (cfg0 a).N, ((cfg0 a).win 9).flush t = true ↔ t.val % 9 = 8 :=
  (fun t => Pipeline.Window.flushOf_reads cc0_transform_9 reads0_9 hreads0_9 0 (by decide) (by decide) (Pipeline.Window.sep_of_coord cc0_transform_9 0 0 (fun _ => rfl) (by decide)) (P := 9) (m := 8) (by decide) rfl t : ∀ t : Fin grid0.N, Pipeline.Window.flushOf grid0 true cc0_transform_9 t = true ↔ t.val % 9 = 8)
/-- Window 10 (result 2 (%4#2)) is written back at the points ≡ 8 (mod 9), at any contents of the tables (its index map reads none). -/
theorem flush0_10 (a : (pcfg0 (F := F)).Adm) : ∀ t : Fin (cfg0 a).N, ((cfg0 a).win 10).flush t = true ↔ t.val % 9 = 8 :=
  (fun t => Pipeline.Window.flushOf_reads cc0_transform_10 reads0_10 hreads0_10 0 (by decide) (by decide) (Pipeline.Window.sep_of_coord cc0_transform_10 0 0 (fun _ => rfl) (by decide)) (P := 9) (m := 8) (by decide) rfl t : ∀ t : Fin grid0.N, Pipeline.Window.flushOf grid0 true cc0_transform_10 t = true ↔ t.val % 9 = 8)
/-- Window 11 (result 3 (%4#3)) is written back at the points ≡ 8 (mod 9), at any contents of the tables (its index map reads none). -/
theorem flush0_11 (a : (pcfg0 (F := F)).Adm) : ∀ t : Fin (cfg0 a).N, ((cfg0 a).win 11).flush t = true ↔ t.val % 9 = 8 :=
  (fun t => Pipeline.Window.flushOf_reads cc0_transform_11 reads0_11 hreads0_11 0 (by decide) (by decide) (Pipeline.Window.sep_of_coord cc0_transform_11 0 0 (fun _ => rfl) (by decide)) (P := 9) (m := 8) (by decide) rfl t : ∀ t : Fin grid0.N, Pipeline.Window.flushOf grid0 true cc0_transform_11 t = true ↔ t.val % 9 = 8)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ffn_down_ln_pool (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 1).trans (((dats 0 c).arrAt_in 1 rfl _).trans ((hA c 1).trans (V_main_arg0 m c))),
      ((h c).1 2).trans (((dats 0 c).arrAt_in 2 rfl _).trans ((hA c 2).trans (V_main_arg1 m c))),
      ((h c).1 0).trans (((dats 0 c).arrAt_in 0 rfl _).trans ((hA c 0).trans (V_main_arg2 m c))),
      ((h c).1 3).trans (((dats 0 c).arrAt_in 3 rfl _).trans ((hA c 3).trans (V_main_arg3 m c))),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c)),
      (((h c).2 main_arg8 (by decide : main_arg8 ∈ Pipeline.restRefs sig spec0)).trans (W_main_arg8 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 180 = 0 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 180 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_1 : ∀ t : Fin grid0.N, cond0_1 (grid0.coords t) ↔ t.val % 9 = 0 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_1, e0, e1]
    word_cmp
   : ∀ t : Fin grid0.N, cond0_1 (grid0.coords t) ↔ t.val % 9 = 0)

/-- The length of the batch of point `i`: the word of the table the body loads and branches on. -/
abbrev wordAt (xt : pre0.Contents (Elt F)) (i : grid0.Coords) : BitVec 32 :=
  xt.at 0 (Rect.unit (s := S20) (k0_off1 i) S1.size (k0_off1_inb i)) numel1_S1

/-- The table entry the printed idle table compares is that word. -/
theorem atD_eq (xt : pre0.Contents (Elt F)) (i : grid0.Coords) : xt.atD 0 (k0_off1 i) = wordAt xt i := by
  have h : ∀ a : Fin 1, k0_off1 i a + 1 ≤ S20.size a := fun a => match a with | 0 => k0_off1_inb i 0
  refine (dif_pos h).trans ?_
  refine congrArg (xt 0) (funext fun a : Fin 1 => Fin.ext ?_)
  match a with
  | 0 => rfl

/-- The condition of the body's `scf.if` 2: the block starts at or after the batch's length. -/
abbrev cond0_2 (i : grid0.Coords) (w : BitVec 32) : Prop := k0_cond3 i w = 1#1
/-- The condition of the body's `scf.if` 3: the block starts before the batch's length. -/
abbrev cond0_3 (i : grid0.Coords) (w : BitVec 32) : Prop := k0_cond4 i w = 1#1

/-- The two conditions are each other's negation. -/
theorem cond0_3_iff (i : grid0.Coords) (w : BitVec 32) : cond0_3 i w ↔ ¬cond0_2 i w := by
  simp only [cond0_2, cond0_3, k0_cond3, k0_cond4]
  generalize Scalar.muli (BitVec.ofNat 32 (i 1).val) 128#32 = x
  have h : IntOp.cmpi .sge x w = BitVec.ofBool (!x.slt w) := by
    simp only [IntOp.cmpi, BitVec.sle_eq_not_slt]
  have h' : IntOp.cmpi .slt x w = BitVec.ofBool (x.slt w) := rfl
  simp only [Scalar.cmpi, h, h']
  cases x.slt w <;> decide

/-- The condition of the body's `scf.if` 4 (`k0_h5`), from the grid coordinates (the skeleton's scalar
    chain substituted). -/
abbrev cond0_4 (i : grid0.Coords) : Prop := k0_cond5 i = 1#1
/-- It holds at the points ≡ 8 (mod 9) — by arithmetic of the point. -/
theorem hcond0_4 : ∀ t : Fin grid0.N, cond0_4 (grid0.coords t) ↔ t.val % 9 = 8 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_4, k0_cond5, e0, e1]
    word_cmp
   : ∀ t : Fin grid0.N, cond0_4 (grid0.coords t) ↔ t.val % 9 = 8)

/-! ## The kernel body on any staging memrefs: a subtype the run finds -/

/-- One staging buffer of output window 8, through which its contents are stated (`View.read_writes_of_cover`: the
    choice does not matter). -/
abbrev VO0_8 : View sig .tc .vmem S1x128x1536 .f32 := (Memref.whole cc0_stg8_0 : Memref sig .tc .vmem S1x128x1536 .f32).view
/-- One staging buffer of output window 9, through which its contents are stated (`View.read_writes_of_cover`: the
    choice does not matter). -/
abbrev VO0_9 : View sig .tc .vmem S1x1x1536 .f32 := (Memref.whole cc0_stg9_0 : Memref sig .tc .vmem S1x1x1536 .f32).view
/-- One staging buffer of output window 10, through which its contents are stated (`View.read_writes_of_cover`: the
    choice does not matter). -/
abbrev VO0_10 : View sig .tc .vmem S1x1x1536 .i8 := (Memref.whole cc0_stg10_0 : Memref sig .tc .vmem S1x1x1536 .i8).view
/-- One staging buffer of output window 11, through which its contents are stated (`View.read_writes_of_cover`: the
    choice does not matter). -/
abbrev VO0_11 : View sig .tc .vmem S1x1x128 .f32 := (Memref.whole cc0_stg11_0 : Memref sig .tc .vmem S1x1x128 .f32).view
/-- Each window's current staging memref at point `t`, spelled as the pipeline passes it (`bodyAt0`), and its wholeness. -/
abbrev ms0_0 (hO : Ok m) (t : Fin (cfgM m hO).N) : Memref sig .tc .vmem S20x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1536 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x8960 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8960x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1536 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1536 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1536 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1536 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x1536 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1536 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1536 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x128 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S8x1536 .f32 := Memref.whole cc0_scratch0
abbrev scM0_1 : Memref sig .tc .vmem S1152x128 .f32 := Memref.whole cc0_scratch1
/-- The scratch `arg15` the kernel carries between points, as a view: what it holds is stated through it. -/
abbrev VS0_0 : View sig .tc .vmem S8x1536 .f32 := scM0_0.view
/-- The scratch `arg16` the kernel carries between points, as a view: what it holds is stated through it. -/
abbrev VS0_1 : View sig .tc .vmem S1152x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Pool

end
-- ==== Proof.Kernel.Vals.lean ====
/- The values one grid point leaves: the transposed scales, the masked block, the running sums. -/
module

public import proofs.«01_k».proof.Proof.Kernel.Base
public import Idealize.ShloMosaic.Lib.VecWindow
public import Idealize.ShloMosaic.Lib.WholeRead
public import Idealize.ShloMosaic.Lib.ValueIdxCore
public import Idealize.ShloMosaic.Lib.Pipeline.Value

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.ValueIdx

/-- The transposed scales, zero in the lanes past the twenty batches: what the first point leaves in the second scratch. -/
def hstVal (x0 : Vec F S20x1152 .f32) : Vec F S1152x128 .f32 := fun y =>
  if h : (y 1).val < 20 then x0 (ix2 (n0 := 20) (n1 := 1152) ⟨(y 1).val, h⟩ (y 0)) else Scalar.ofBits .f32 0x00000000#32

/-- The 128 rows of the transposed scales that a grid point reads. -/
def rowsAt (i : grid0.Coords) (h : Vec F S1152x128 .f32) : Vec F S128x128 .f32 := fun y =>
  h ((Rect.unit (s := S1152x128) (k0_off2 i) S128x128.size (k0_off2_inb i)).toLoadRect.idx y)

/-- The layer-normed, masked block of one grid point. -/
def zmVal (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) : Vec F S1x128x1536 .f32 :=
  k0_pay9 i w (k0_pay17 (BitVec.ofNat 32 (i 0).val) x2 x3 (rowsAt i h) x1 x4 x5)
    (k0_pay18 (BitVec.ofNat 32 (i 0).val) x2 x3 (rowsAt i h) x1 x4 x5) k0_pay19 x6 x7

/-- The running sums after a grid point whose block is active. -/
def accVal (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) (a : Vec F S8x1536 .f32) : Vec F S8x1536 .f32 :=
  k0_pay10 i w (k0_pay17 (BitVec.ofNat 32 (i 0).val) x2 x3 (rowsAt i h) x1 x4 x5)
    (k0_pay18 (BitVec.ofNat 32 (i 0).val) x2 x3 (rowsAt i h) x1 x4 x5) k0_pay19 x6 x7 a

/-- A whole window read back through a rectangle of the window's own sizes. -/
theorem ld_whole {sp : Space} {s : Shape} {e : EltTy} (m : Memref sig .tc sp s e) (h : m.IsWhole) (x : Vec F s e) {off : Fin s.rank → ℕ}
    (inb : ∀ a, off a + s.size a ≤ s.size a) : View.readAt (Elt F) m.view (Rect.unit off s.size inb).toLoadRect (h.unread x) = x :=
  (View.readAt_full m.view _ inb).trans (h.read_unread x)

/-- The rows read back from whole contents. -/
theorem ld_rows (i : grid0.Coords) (m : Memref sig .tc .vmem S1152x128 .f32) (f) (h : Vec F S1152x128 .f32) (hf : View.read (Elt F) m.view f = h) :
    View.readAt (Elt F) m.view (Rect.unit (s := S1152x128) (k0_off2 i) S128x128.size (k0_off2_inb i)).toLoadRect f = rowsAt i h := by
  subst hf; rfl

/-- The block's payload, once its loads are known. -/
theorem close_zm (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32)
    (a0 : Vec F S128x128 .f32) (a1 : Vec F S1x128x1536 .bf16) (a2 : Vec F S1x128x8960 .fp8e4m3)
    (a3 : Vec F S8960x1536 .fp8e4m3) (a4 a5 a6 a7 : Vec F S1x1536 .f32)
    (e0 : a0 = rowsAt i h) (e1 : a1 = x1) (e2 : a2 = x2) (e3 : a3 = x3) (e4 : a4 = x4) (e5 : a5 = x5) (e6 : a6 = x6) (e7 : a7 = x7) :
    k0_pay9 i w (k0_pay17 (BitVec.ofNat 32 (i 0).val) a2 a3 a0 a1 a4 a5) (k0_pay18 (BitVec.ofNat 32 (i 0).val) a2 a3 a0 a1 a4 a5) k0_pay19 a6 a7
      = zmVal i w h x1 x2 x3 x4 x5 x6 x7 := by
  subst e0 e1 e2 e3 e4 e5 e6 e7; rfl

/-- The running sums' payload, once its loads are known. -/
theorem close_acc (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) (a : Vec F S8x1536 .f32)
    (a0 : Vec F S128x128 .f32) (a1 : Vec F S1x128x1536 .bf16) (a2 : Vec F S1x128x8960 .fp8e4m3)
    (a3 : Vec F S8960x1536 .fp8e4m3) (a4 a5 a6 a7 : Vec F S1x1536 .f32) (aa : Vec F S8x1536 .f32)
    (e0 : a0 = rowsAt i h) (e1 : a1 = x1) (e2 : a2 = x2) (e3 : a3 = x3) (e4 : a4 = x4) (e5 : a5 = x5) (e6 : a6 = x6) (e7 : a7 = x7) (ea : aa = a) :
    k0_pay10 i w (k0_pay17 (BitVec.ofNat 32 (i 0).val) a2 a3 a0 a1 a4 a5) (k0_pay18 (BitVec.ofNat 32 (i 0).val) a2 a3 a0 a1 a4 a5) k0_pay19 a6 a7 aa
      = accVal i w h x1 x2 x3 x4 x5 x6 x7 a := by
  subst e0 e1 e2 e3 e4 e5 e6 e7 ea; rfl

/-- One transposed, zero-padded block of scales, entry by entry. -/
theorem blk_apply (b : Vec F S20x128 .f32) (y : S128x128.Idx) :
    k0_pay12 b y = if h : (y 1).val < 20 then b (ix2 (n0 := 20) (n1 := 128) ⟨(y 1).val, h⟩ (y 0)) else Scalar.ofBits .f32 0x00000000#32 := by
  have hy1 : (y 1).val < 128 := (y 1).isLt
  unfold k0_pay12
  dsimp only
  rw [Idealize.ShloMosaic.shapeCast_self]
  refine (transpose_apply (s := S128x128) (t := S128x128) [1, 0] _ _ y (ix2 (n0 := 128) (n1 := 128) (y 1) (y 0)) (fun b => by match b with | 0 => rfl | 1 => rfl)).trans ?_
  split
  · rename_i h
    exact concatenate_pair_apply_left (t := S128x128) (s₁ := S20x128) (s₂ := S108x128) 0 _ _ _ (ix2 (n0 := 128) (n1 := 128) (y 1) (y 0)) rfl _ (fun b => by match b with | 0 => rfl | 1 => rfl)
  · rename_i h
    exact concatenate_pair_apply_right (t := S128x128) (s₁ := S20x128) (s₂ := S108x128) 0 _ _ _ (ix2 (n0 := 128) (n1 := 128) (y 1) (y 0)) rfl rfl (ix2 (n0 := 108) (n1 := 128) ⟨(y 1).val - 20, by omega⟩ (y 0))
      (fun b hb => by match b with | 0 => exact absurd rfl hb | 1 => rfl) (by show (y 1).val - 20 + 20 = (y 1).val; omega)

/-- One block's entries are those of `hstVal` at the block's rows. -/
theorem blk_hst (m3 : Memref sig .tc .vmem S20x1152 .f32) (h3 : m3.IsWhole) (x0 : Vec F S20x1152 .f32) (o : ℕ)
    (inb : ∀ a, (![0, o] : Fin 2 → ℕ) a + S20x128.size a ≤ S20x1152.size a) (inb' : ∀ a, (![o, 0] : Fin 2 → ℕ) a + S128x128.size a ≤ S1152x128.size a)
    (y : S128x128.Idx) :
    k0_pay12 (View.readAt (Elt F) m3.view (Rect.unit (s := S20x1152) ![0, o] S20x128.size inb).toLoadRect (h3.unread x0)) y
      = hstVal x0 ((Rect.unit (s := S1152x128) ![o, 0] S128x128.size inb').emb y) := by
  rw [blk_apply]
  have e1 : (((Rect.unit (s := S1152x128) ![o, 0] S128x128.size inb').emb y) 1).val = (y 1).val := by
    show 0 + 1 * (y 1).val = _; omega
  have e0 : (((Rect.unit (s := S1152x128) ![o, 0] S128x128.size inb').emb y) 0).val = o + (y 0).val := by
    show o + 1 * (y 0).val = _; omega
  unfold hstVal
  by_cases h : (y 1).val < 20
  · rw [dif_pos h, dif_pos (e1.symm ▸ h), h3.readAt_unread]
    refine congrArg x0 (funext fun a => Fin.ext ?_)
    match a with
    | 0 => show 0 + 1 * (y 1).val = _; rw [Nat.one_mul, Nat.zero_add]; exact e1.symm
    | 1 => show o + 1 * (y 0).val = _; rw [Nat.one_mul]; exact e0.symm
  · rw [dif_neg h, dif_neg (e1.symm ▸ h)]

/-- The nine blocks the first point stores. -/
def hstPieces (m3 : Memref sig .tc .vmem S20x1152 .f32) (h3 : m3.IsWhole) (x0 : Vec F S20x1152 .f32) : List (View.Piece (Elt F) S1152x128 .f32) :=
  [⟨Rect.unit (s := S1152x128) ![1024, 0] S128x128.size inb_S1152x128_S128x128_1024_0, k0_pay5 (View.readAt (Elt F) m3.view (Rect.unit (s := S20x1152) ![0, 1024] S20x128.size inb_S20x1152_S20x128_0_1024).toLoadRect (h3.unread x0))⟩,
   ⟨Rect.unit (s := S1152x128) ![896, 0] S128x128.size inb_S1152x128_S128x128_896_0, k0_pay4 (View.readAt (Elt F) m3.view (Rect.unit (s := S20x1152) ![0, 896] S20x128.size inb_S20x1152_S20x128_0_896).toLoadRect (h3.unread x0))⟩,
   ⟨Rect.unit (s := S1152x128) ![768, 0] S128x128.size inb_S1152x128_S128x128_768_0, k0_pay3 (View.readAt (Elt F) m3.view (Rect.unit (s := S20x1152) ![0, 768] S20x128.size inb_S20x1152_S20x128_0_768).toLoadRect (h3.unread x0))⟩,
   ⟨Rect.unit (s := S1152x128) ![640, 0] S128x128.size inb_S1152x128_S128x128_640_0, k0_pay2 (View.readAt (Elt F) m3.view (Rect.unit (s := S20x1152) ![0, 640] S20x128.size inb_S20x1152_S20x128_0_640).toLoadRect (h3.unread x0))⟩,
   ⟨Rect.unit (s := S1152x128) ![512, 0] S128x128.size inb_S1152x128_S128x128_512_0, k0_pay1 (k0_pay16 (View.readAt (Elt F) m3.view (Rect.unit (s := S20x1152) ![0, 512] S20x128.size inb_S20x1152_S20x128_0_512).toLoadRect (h3.unread x0)))⟩,
   ⟨Rect.unit (s := S1152x128) ![384, 0] S128x128.size inb_S1152x128_S128x128_384_0, k0_pay15 (View.readAt (Elt F) m3.view (Rect.unit (s := S20x1152) ![0, 384] S20x128.size inb_S20x1152_S20x128_0_384).toLoadRect (h3.unread x0))⟩,
   ⟨Rect.unit (s := S1152x128) ![256, 0] S128x128.size inb_S1152x128_S128x128_256_0, k0_pay14 (View.readAt (Elt F) m3.view (Rect.unit (s := S20x1152) ![0, 256] S20x128.size inb_S20x1152_S20x128_0_256).toLoadRect (h3.unread x0))⟩,
   ⟨Rect.unit (s := S1152x128) ![128, 0] S128x128.size inb_S1152x128_S128x128_128_0, k0_pay13 (View.readAt (Elt F) m3.view (Rect.unit (s := S20x1152) ![0, 128] S20x128.size inb_S20x1152_S20x128_0_128).toLoadRect (h3.unread x0))⟩,
   ⟨Rect.unit (s := S1152x128) ![0, 0] S128x128.size inb_S1152x128_S128x128_0_0, k0_pay12 (View.readAt (Elt F) m3.view (Rect.unit (s := S20x1152) ![0, 0] S20x128.size inb_S20x1152_S20x128_0_0).toLoadRect (h3.unread x0))⟩]

/-- The nine blocks fill the second scratch with the transposed scales. -/
theorem read_hst (v : View sig .tc .vmem S1152x128 .f32) (f : v.ty.Contents (Elt F)) (m3 : Memref sig .tc .vmem S20x1152 .f32) (h3 : m3.IsWhole) (x0 : Vec F S20x1152 .f32) :
    View.read (Elt F) v (v.writes (Elt F) f (hstPieces m3 h3 x0)) = hstVal x0 := by
  funext y
  refine View.read_writes_apply_of_pieces v f (hstVal x0) (hstPieces m3 h3 x0) ?_ y (View.cover_of_tiledL (hstPieces m3 h3 x0) S128x128.size (by sl_kernel_rfl) y)
  intro p hp
  simp only [hstPieces, List.mem_cons, List.not_mem_nil, or_false] at hp
  rcases hp with rfl | rfl | rfl | rfl | rfl | rfl | rfl | rfl | rfl
  · exact fun x => blk_hst m3 h3 x0 1024 inb_S20x1152_S20x128_0_1024 inb_S1152x128_S128x128_1024_0 x
  · exact fun x => blk_hst m3 h3 x0 896 inb_S20x1152_S20x128_0_896 inb_S1152x128_S128x128_896_0 x
  · exact fun x => blk_hst m3 h3 x0 768 inb_S20x1152_S20x128_0_768 inb_S1152x128_S128x128_768_0 x
  · exact fun x => blk_hst m3 h3 x0 640 inb_S20x1152_S20x128_0_640 inb_S1152x128_S128x128_640_0 x
  · exact fun x => blk_hst m3 h3 x0 512 inb_S20x1152_S20x128_0_512 inb_S1152x128_S128x128_512_0 x
  · exact fun x => blk_hst m3 h3 x0 384 inb_S20x1152_S20x128_0_384 inb_S1152x128_S128x128_384_0 x
  · exact fun x => blk_hst m3 h3 x0 256 inb_S20x1152_S20x128_0_256 inb_S1152x128_S128x128_256_0 x
  · exact fun x => blk_hst m3 h3 x0 128 inb_S20x1152_S20x128_0_128 inb_S1152x128_S128x128_128_0 x
  · exact fun x => blk_hst m3 h3 x0 0 inb_S20x1152_S20x128_0_0 inb_S1152x128_S128x128_0_0 x

end Cert.Kernel.Pool

end
-- ==== Proof.Kernel.Data.lean ====
/- The proof data of the pipeline: what each grid point leaves in the outputs and the two scratch buffers. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- Window 3 is never idle (an input). -/
theorem liveAt0_3 (hO : Ok m) : ∀ t : Fin (cfgM m hO).N, (cfgM m hO).idle 3 (grid0.coords t) = false := fun _ => rfl
/-- Window 4 is never idle (an input). -/
theorem liveAt0_4 (hO : Ok m) : ∀ t : Fin (cfgM m hO).N, (cfgM m hO).idle 4 (grid0.coords t) = false := fun _ => rfl
/-- Window 5 is never idle (an input). -/
theorem liveAt0_5 (hO : Ok m) : ∀ t : Fin (cfgM m hO).N, (cfgM m hO).idle 5 (grid0.coords t) = false := fun _ => rfl
/-- Window 6 is never idle (an input). -/
theorem liveAt0_6 (hO : Ok m) : ∀ t : Fin (cfgM m hO).N, (cfgM m hO).idle 6 (grid0.coords t) = false := fun _ => rfl
/-- Window 7 is never idle (an input). -/
theorem liveAt0_7 (hO : Ok m) : ∀ t : Fin (cfgM m hO).N, (cfgM m hO).idle 7 (grid0.coords t) = false := fun _ => rfl
/-- The block output is never idle: one of its two conditions holds. -/
theorem liveAt0_8 (hO : Ok m) (t : Fin (cfgM m hO).N) : (cfgM m hO).idle 8 (grid0.coords t) = false := by
  show (!(k0_cond3 (grid0.coords t) ((tbl m).atD 0 (k0_off1 (grid0.coords t))) == 1#1) && !(k0_cond4 (grid0.coords t) ((tbl m).atD 0 (k0_off1 (grid0.coords t))) == 1#1)) = false
  rw [atD_eq]
  have h := cond0_3_iff (grid0.coords t) (wordAt (tbl m) (grid0.coords t))
  simp only [cond0_2, cond0_3] at h
  by_cases h2 : k0_cond3 (grid0.coords t) (wordAt (tbl m) (grid0.coords t)) = 1#1
  · simp [h2]
  · simp [h.mpr h2]
/-- Output 9 is live at the last point of a batch, -/
theorem liveAt0_9 (hO : Ok m) (t : Fin (cfgM m hO).N) (h : cond0_4 (grid0.coords t)) : (cfgM m hO).idle 9 (grid0.coords t) = false := by
  show (!(k0_cond5 (grid0.coords t) == 1#1)) = false
  simp only [cond0_4] at h; simp [h]
/-- idle at the others, -/
theorem idleAt0_9 (hO : Ok m) (t : Fin (cfgM m hO).N) (h : ¬cond0_4 (grid0.coords t)) : (cfgM m hO).idle 9 (grid0.coords t) = true := by
  show (!(k0_cond5 (grid0.coords t) == 1#1)) = true
  simp only [cond0_4] at h; simp [h]
/-- and not written back there. -/
theorem noFlush0_9 (hO : Ok m) (t : Fin (cfgM m hO).N) (h : ¬t.val % 9 = 8) : ((cfgM m hO).win 9).flush t = false :=
  Bool.eq_false_iff.mpr fun e => h ((flush0_9 (adm m hO) t).mp e)
/-- Output 10 is live at the last point of a batch, -/
theorem liveAt0_10 (hO : Ok m) (t : Fin (cfgM m hO).N) (h : cond0_4 (grid0.coords t)) : (cfgM m hO).idle 10 (grid0.coords t) = false := by
  show (!(k0_cond5 (grid0.coords t) == 1#1)) = false
  simp only [cond0_4] at h; simp [h]
/-- idle at the others, -/
theorem idleAt0_10 (hO : Ok m) (t : Fin (cfgM m hO).N) (h : ¬cond0_4 (grid0.coords t)) : (cfgM m hO).idle 10 (grid0.coords t) = true := by
  show (!(k0_cond5 (grid0.coords t) == 1#1)) = true
  simp only [cond0_4] at h; simp [h]
/-- and not written back there. -/
theorem noFlush0_10 (hO : Ok m) (t : Fin (cfgM m hO).N) (h : ¬t.val % 9 = 8) : ((cfgM m hO).win 10).flush t = false :=
  Bool.eq_false_iff.mpr fun e => h ((flush0_10 (adm m hO) t).mp e)
/-- Output 11 is live at the last point of a batch, -/
theorem liveAt0_11 (hO : Ok m) (t : Fin (cfgM m hO).N) (h : cond0_4 (grid0.coords t)) : (cfgM m hO).idle 11 (grid0.coords t) = false := by
  show (!(k0_cond5 (grid0.coords t) == 1#1)) = false
  simp only [cond0_4] at h; simp [h]
/-- idle at the others, -/
theorem idleAt0_11 (hO : Ok m) (t : Fin (cfgM m hO).N) (h : ¬cond0_4 (grid0.coords t)) : (cfgM m hO).idle 11 (grid0.coords t) = true := by
  show (!(k0_cond5 (grid0.coords t) == 1#1)) = true
  simp only [cond0_4] at h; simp [h]
/-- and not written back there. -/
theorem noFlush0_11 (hO : Ok m) (t : Fin (cfgM m hO).N) (h : ¬t.val % 9 = 8) : ((cfgM m hO).win 11).flush t = false :=
  Bool.eq_false_iff.mpr fun e => h ((flush0_11 (adm m hO) t).mp e)

/-! ## What the points leave -/

/-- The length of the batch of point `t`. -/
abbrev wd (hO : Ok m) (t : Fin (cfgM m hO).N) : BitVec 32 := wordAt (tbl m) (grid0.coords t)

/-- The first grid point. -/
abbrev t0 (hO : Ok m) : Fin (cfgM m hO).N := ⟨0, Nat.lt_of_lt_of_eq (by decide) (show (cfgM m hO).N = 180 from N_0).symm⟩

/-- The transposed scales: the second scratch after the first point. -/
def hstC (hO : Ok m) (c : Dev nD) : Vec F S1152x128 .f32 := hstVal (iblk m hO c 0 (t0 m hO))

open Classical in
/-- The block output after point `t`. -/
def zmAt (hO : Ok m) (c : Dev nD) (t : Fin (cfgM m hO).N) : Vec F S1x128x1536 .f32 :=
  if cond0_2 (grid0.coords t) (wd m hO t) then k0_pay7 (F := F) else zmVal (grid0.coords t) (wd m hO t) (hstC m hO c) (iblk m hO c 1 t) (iblk m hO c 2 t) (iblk m hO c 3 t) (iblk m hO c 4 t) (iblk m hO c 5 t) (iblk m hO c 6 t) (iblk m hO c 7 t)

open Classical in
/-- The running sums after point `t`, from those before it. -/
def accStep (hO : Ok m) (c : Dev nD) (t : Fin (cfgM m hO).N) (a : Vec F S8x1536 .f32) : Vec F S8x1536 .f32 :=
  if cond0_2 (grid0.coords t) (wd m hO t) then a else accVal (grid0.coords t) (wd m hO t) (hstC m hO c) (iblk m hO c 1 t) (iblk m hO c 2 t) (iblk m hO c 3 t) (iblk m hO c 4 t) (iblk m hO c 5 t) (iblk m hO c 6 t) (iblk m hO c 7 t) a

/-- The running sums after point `n`: cleared at the first point of a batch. -/
def accAt (hO : Ok m) (c : Dev nD) : (n : ℕ) → n < (cfgM m hO).N → Vec F S8x1536 .f32
  | 0, h => accStep m hO c ⟨0, h⟩ (k0_pay6 (F := F))
  | n + 1, h => accStep m hO c ⟨n + 1, h⟩ (if (n + 1) % 9 = 0 then k0_pay6 (F := F) else accAt hO c n (Nat.lt_of_succ_lt h))

theorem accAt_first (hO : Ok m) (c : Dev nD) (t : Fin (cfgM m hO).N) (h : t.val % 9 = 0) : accAt m hO c t.val t.isLt = accStep m hO c t (k0_pay6 (F := F)) := by
  obtain ⟨n, hn⟩ := t
  cases n with
  | zero => rfl
  | succ n => exact congrArg (accStep m hO c ⟨n + 1, hn⟩) (if_pos h)

theorem accAt_next (hO : Ok m) (c : Dev nD) (t : Fin (cfgM m hO).N) (h : ¬t.val % 9 = 0) :
    accAt m hO c t.val t.isLt = accStep m hO c t (accAt m hO c (t.val - 1) (Nat.lt_of_le_of_lt (Nat.sub_le _ _) t.isLt)) := by
  obtain ⟨n, hn⟩ := t
  cases n with
  | zero => exact absurd rfl h
  | succ n => exact congrArg (accStep m hO c ⟨n + 1, hn⟩) (if_neg h)

theorem zmAt_active (hO : Ok m) (c : Dev nD) (t : Fin (cfgM m hO).N) (h : ¬cond0_2 (grid0.coords t) (wd m hO t)) :
    zmAt m hO c t = zmVal (grid0.coords t) (wd m hO t) (hstC m hO c) (iblk m hO c 1 t) (iblk m hO c 2 t) (iblk m hO c 3 t) (iblk m hO c 4 t) (iblk m hO c 5 t) (iblk m hO c 6 t) (iblk m hO c 7 t) := if_neg h
theorem zmAt_inactive (hO : Ok m) (c : Dev nD) (t : Fin (cfgM m hO).N) (h : cond0_2 (grid0.coords t) (wd m hO t)) :
    zmAt m hO c t = k0_pay7 (F := F) := if_pos h
theorem accStep_active (hO : Ok m) (c : Dev nD) (t : Fin (cfgM m hO).N) (h : ¬cond0_2 (grid0.coords t) (wd m hO t)) (a : Vec F S8x1536 .f32) :
    accStep m hO c t a = accVal (grid0.coords t) (wd m hO t) (hstC m hO c) (iblk m hO c 1 t) (iblk m hO c 2 t) (iblk m hO c 3 t) (iblk m hO c 4 t) (iblk m hO c 5 t) (iblk m hO c 6 t) (iblk m hO c 7 t) a := if_neg h
theorem accStep_inactive (hO : Ok m) (c : Dev nD) (t : Fin (cfgM m hO).N) (h : cond0_2 (grid0.coords t) (wd m hO t)) (a : Vec F S8x1536 .f32) :
    accStep m hO c t a = a := if_pos h

/-- The region invariant before position `n`: before the first point every scratch at anything; afterwards the running sums and the
    transposed scales as the points left them. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accAt m hO c n hn) ∗ owns (c : Thread nD τ) scM0_1 fullShare (hstC m hO c)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (accAt m hO c n hn) ∗ owns (c : Thread nD τ) scM0_1 fullShare (hstC m hO c)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (accAt m hO c (n - 1) (by omega)) ∗ owns (c : Thread nD τ) scM0_1 fullShare (hstC m hO c)) ∗ (∃ r, prngReg c r)) ∗ Pipeline.ΦT pre0 (tbl m) c) := by
  cases n with
  | zero => exact absurd rfl hz
  | succ n => rfl

/-- The proof data of the pipeline on core `c`: the arrays as the region finds them; after point `t` each input's buffer at its block and the
    outputs at the values above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => zmAt m hO c t
    | ⟨9, _⟩ => k0_pay23 (wd m hO t) (accAt m hO c t.val t.isLt)
    | ⟨10, _⟩ => k0_pay24 (F := F) (wd m hO t) (accAt m hO c t.val t.isLt)
    | ⟨11, _⟩ => k0_pay11 (k0_pay25 (wd m hO t) (accAt m hO c t.val t.isLt))
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = zmAt m hO c t := by dsimp only [dats]; try rfl
theorem after0_9 (hO : Ok m) (c : Dev nD) (t : Fin (cfgM m hO).N) : (dats m hO 0 c).after 9 t = k0_pay23 (wd m hO t) (accAt m hO c t.val t.isLt) := by dsimp only [dats]; try rfl
theorem after0_10 (hO : Ok m) (c : Dev nD) (t : Fin (cfgM m hO).N) : (dats m hO 0 c).after 10 t = k0_pay24 (F := F) (wd m hO t) (accAt m hO c t.val t.isLt) := by dsimp only [dats]; try rfl
theorem after0_11 (hO : Ok m) (c : Dev nD) (t : Fin (cfgM m hO).N) : (dats m hO 0 c).after 11 t = k0_pay11 (k0_pay25 (wd m hO t) (accAt m hO c t.val t.isLt)) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body's obligation at a point: what it is called with and what it returns -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

end Cert.Kernel.Pool

end
-- ==== Proof.Kernel.RunA.lean ====
/- The first grid point: the scales are transposed, the sums cleared, the block computed. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first grid point: the scales are transposed, the sums cleared, the block computed. -/
theorem run_A (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : cond0_0 i) (hc1 : cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ (∃ d, owns (c : Thread nD τ) arg15 fullShare d)
            ∗ (∃ d, owns (c : Thread nD τ) arg16 fullShare d)
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) (hstVal x0) x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) (hstVal x0) x1 x2 x3 x4 x5 x6 x7 (k0_pay6 (F := F)))
            ∗ owns (c : Thread nD τ) arg16 fullShare (hstVal x0)
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) (hstVal x0) x1 x2 x3 x4 x5 x6 x7 _ _ _ _ _ _ _ _ (ld_rows i arg16 _ (hstVal x0) (read_hst arg16.view _ arg3 harg3 x0)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) (hstVal x0) x1 x2 x3 x4 x5 x6 x7 (k0_pay6 (F := F)) _ _ _ _ _ _ _ _ _ (ld_rows i arg16 _ (hstVal x0) (read_hst arg16.view _ arg3 harg3 x0)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (View.readCov_full arg15.view _ _ _ _))
  isplitl [H13]
  · iexists _; isplitr; swap; · iexact H13
    ipureintro
    exact read_hst arg16.view _ arg3 harg3 x0
  iexact HT

end Cert.Kernel.Pool

end
-- ==== Proof.Kernel.SoundA.lean ====
/- The body obligation at the points of one case. The first grid point: the scales are transposed, the sums cleared, the block computed. -/
module

public import proofs.«01_k».proof.Proof.Kernel.Data
public import proofs.«01_k».proof.Proof.Kernel.RunA

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (hO : Ok m) (c : Dev nD) (t : Fin (cfgM m hO).N) (h0 : t.val % 180 = 0) (h1 : t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val = 0 := by omega
  obtain rfl : t = t0 m hO := Fin.ext hz
  rw [PhiS_castSucc m hO c _, PhiS_zero m hO c _ _ hz, PhiT0_eq, PhiA0_eq]
  rw [accAt_first m hO c (t0 m hO) h1, accStep_active m hO c (t0 m hO) h2, zmAt_active m hO c (t0 m hO) h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords (t0 m hO)) _ _ _ _ _ _ _ _ _ _ _ _ _ _ _ _ _ _ _ _ _ _ _ _ _ _ _ _ (tbl m) ((hcond0_0 (t0 m hO)).mpr h0) ((hcond0_1 (t0 m hO)).mpr h1) h2 ((cond0_3_iff _ _).mpr h2) (fun h => h4 ((hcond0_4 (t0 m hO)).mp h)) (iblk m hO c 0 (t0 m hO)) (iblk m hO c 1 (t0 m hO)) (iblk m hO c 2 (t0 m hO)) (iblk m hO c 3 (t0 m hO)) (iblk m hO c 4 (t0 m hO)) (iblk m hO c 5 (t0 m hO)) (iblk m hO c 6 (t0 m hO)) (iblk m hO c 7 (t0 m hO)) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.Kernel.Pool

end
-- ==== Proof.Kernel.RunB.lean ====
/- The first point of a later batch: the sums cleared, the block computed. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point of a later batch: the sums cleared, the block computed. -/
theorem run_B (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ (∃ d, owns (c : Thread nD τ) arg15 fullShare d)
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) xs1 x1 x2 x3 x4 x5 x6 x7 (k0_pay6 (F := F)))
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) xs1 x1 x2 x3 x4 x5 x6 x7 (k0_pay6 (F := F)) _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (View.readCov_full arg15.view _ _ _ _))
  isplitl [H13]
  · iexists _; isplitr; · ipureintro; exact harg16.read_unread _
    iexact H13
  iexact HT

end Cert.Kernel.Pool

end
-- ==== Proof.Kernel.SoundB.lean ====
/- The body obligation at the points of one case. The first point of a later batch: the sums cleared, the block computed. -/
module

public import proofs.«01_k».proof.Proof.Kernel.Data
public import proofs.«01_k».proof.Proof.Kernel.RunB

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (hO : Ok m) (c : Dev nD) (t : Fin (cfgM m hO).N) (h0 : ¬t.val % 180 = 0) (h1 : t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_first m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ _ _ (tbl m) (fun h => h0 ((hcond0_0 t).mp h)) ((hcond0_1 t).mpr h1) h2 ((cond0_3_iff _ _).mpr h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexists _; iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.Kernel.Pool

end
-- ==== Proof.Kernel.RunC.lean ====
/- A middle point whose block is active. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point whose block is active. -/
theorem run_C (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) xs1 x1 x2 x3 x4 x5 x6 x7 xs0)
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))
  isplitl [H13]
  · iexists _; isplitr; · ipureintro; exact harg16.read_unread _
    iexact H13
  iexact HT

end Cert.Kernel.Pool

end
-- ==== Proof.Kernel.SoundC.lean ====
/- The body obligation at the points of one case. A middle point whose block is active. -/
module

public import proofs.«01_k».proof.Proof.Kernel.Data
public import proofs.«01_k».proof.Proof.Kernel.RunC

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (hO : Ok m) (c : Dev nD) (t : Fin (cfgM m hO).N) (h0 : ¬t.val % 180 = 0) (h1 : ¬t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_next m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ _ _ (tbl m) (fun h => h0 ((hcond0_0 t).mp h)) (fun h => h1 ((hcond0_1 t).mp h)) h2 ((cond0_3_iff _ _).mpr h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.Kernel.Pool

end
-- ==== Proof.Kernel.RunD.lean ====
/- A middle point past the batch's length: a block of zeros. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point past the batch's length: a block of zeros. -/
theorem run_D (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : cond0_2 i (wordAt xt i)) (hc3 : ¬cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (k0_pay7 (F := F))
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _)
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  iexact HT

end Cert.Kernel.Pool

end
-- ==== Proof.Kernel.SoundD.lean ====
/- The body obligation at the points of one case. A middle point past the batch's length: a block of zeros. -/
module

public import proofs.«01_k».proof.Proof.Kernel.Data
public import proofs.«01_k».proof.Proof.Kernel.RunD

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_D (hO : Ok m) (c : Dev nD) (t : Fin (cfgM m hO).N) (h0 : ¬t.val % 180 = 0) (h1 : ¬t.val % 9 = 0) (h2 : cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_next m hO c t h1, accStep_inactive m hO c t h2, zmAt_inactive m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) _ _ _ _ _ _ _ _ _ _ _ _ _ _ _ _ _ _ _ _ _ _ _ _ _ _ _ _ (tbl m) (fun h => h0 ((hcond0_0 t).mp h)) (fun h => h1 ((hcond0_1 t).mp h)) h2 (fun h => (cond0_3_iff _ _).mp h h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.Kernel.Pool

end
-- ==== Proof.Kernel.RunE.lean ====
/- The last point of a batch, its block active: the block, and the pooled row and its codes. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point of a batch, its block active: the block, and the pooled row and its codes. -/
theorem run_E (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : ¬cond0_2 i (wordAt xt i)) (hc3 : cond0_3 i (wordAt xt i)) (hc4 : cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare (k0_pay23 (wordAt xt i) (accVal i (wordAt xt i) xs1 x1 x2 x3 x4 x5 x6 x7 xs0))
            ∗ owns (c : Thread nD τ) arg13 fullShare (k0_pay24 (F := F) (wordAt xt i) (accVal i (wordAt xt i) xs1 x1 x2 x3 x4 x5 x6 x7 xs0))
            ∗ owns (c : Thread nD τ) arg14 fullShare (k0_pay11 (k0_pay25 (wordAt xt i) (accVal i (wordAt xt i) xs1 x1 x2 x3 x4 x5 x6 x7 xs0)))
            ∗ owns (c : Thread nD τ) arg15 fullShare (accVal i (wordAt xt i) xs1 x1 x2 x3 x4 x5 x6 x7 xs0)
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; swap; · iexact H9
    ipureintro
    exact (View.read_writes_full _ _ _ _ _).trans (congrArg (k0_pay23 (wordAt xt i)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H10]
  · iexists _; isplitr; swap; · iexact H10
    ipureintro
    exact (View.read_writes_full _ _ _ _ _).trans (congrArg (k0_pay24 (F := F) (wordAt xt i)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H11]
  · iexists _; isplitr; swap; · iexact H11
    ipureintro
    exact (View.read_writes_full _ _ _ _ _).trans (congrArg (fun a => k0_pay11 (k0_pay25 (wordAt xt i) a)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H12]
  · iexists _; isplitr; swap; · iexact H12
    ipureintro
    exact (View.read_writes_full _ _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))
  isplitl [H13]
  · iexists _; isplitr; · ipureintro; exact harg16.read_unread _
    iexact H13
  iexact HT

end Cert.Kernel.Pool

end
-- ==== Proof.Kernel.SoundE.lean ====
/- The body obligation at the points of one case. The last point of a batch, its block active: the block, and the pooled row and its codes. -/
module

public import proofs.«01_k».proof.Proof.Kernel.Data
public import proofs.«01_k».proof.Proof.Kernel.RunE

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_E (hO : Ok m) (c : Dev nD) (t : Fin (cfgM m hO).N) (h0 : ¬t.val % 180 = 0) (h1 : ¬t.val % 9 = 0) (h2 : ¬cond0_2 (grid0.coords t) (wd m hO t)) (h4 : t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t ((hcond0_4 t).mpr h4)]; try rfl, after0_9]
  rw [show (dats m hO 0 c).leavesExact 10 t = owns (c : Thread nD τ) (ms0_10 m hO t) fullShare ((dats m hO 0 c).after 10 t) from by
    unfold Dat.leavesExact; rw [liveAt0_10 m hO t ((hcond0_4 t).mpr h4)]; try rfl, after0_10]
  rw [show (dats m hO 0 c).leavesExact 11 t = owns (c : Thread nD τ) (ms0_11 m hO t) fullShare ((dats m hO 0 c).after 11 t) from by
    unfold Dat.leavesExact; rw [liveAt0_11 m hO t ((hcond0_4 t).mpr h4)]; try rfl, after0_11]
  have hz : t.val ≠ 0 := by omega
  rw [PhiS_castSucc m hO c t, PhiS_pos m hO c _ _ hz, PhiT0_eq]
  rw [accAt_next m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_E c (grid0.coords t) _ _ _ _ _ _ _ _ _ _ _ _ _ _ _ _ _ _ _ _ _ _ _ _ _ _ _ _ (tbl m) (fun h => h0 ((hcond0_0 t).mp h)) (fun h => h1 ((hcond0_1 t).mp h)) h2 ((cond0_3_iff _ _).mpr h2) ((hcond0_4 t).mpr h4) (iblk m hO c 0 t) (iblk m hO c 1 t) (iblk m hO c 2 t) (iblk m hO c 3 t) (iblk m hO c 4 t) (iblk m hO c 5 t) (iblk m hO c 6 t) (iblk m hO c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Pool

end
-- ==== Proof.Kernel.RunG.lean ====
/- The last point of a batch past its length: a block of zeros, and the pooled row and its codes. -/
module

public import proofs.«01_k».proof.Proof.Kernel.Vals

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point of a batch past its length: a block of zeros, and the pooled row and its codes. -/
theorem run_G (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : cond0_2 i (wordAt xt i)) (hc3 : ¬cond0_3 i (wordAt xt i)) (hc4 : cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (k0_pay7 (F := F))
            ∗ owns (c : Thread nD τ) arg12 fullShare (k0_pay23 (wordAt xt i) xs0)
            ∗ owns (c : Thread nD τ) arg13 fullShare (k0_pay24 (F := F) (wordAt xt i) xs0)
            ∗ owns (c : Thread nD τ) arg14 fullShare (k0_pay11 (k0_pay25 (wordAt xt i) xs0))
            ∗ owns (c : Thread nD τ) arg15 fullShare xs0
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _)
  isplitl [H9]
  · iexists _; isplitr; swap; · iexact H9
    ipureintro
    exact (View.read_writes_full _ _ _ _ _).trans (congrArg (k0_pay23 (wordAt xt i)) (ld_whole arg15 harg15 xs0 _))
  isplitl [H10]
  · iexists _; isplitr; swap; · iexact H10
    ipureintro
    exact (View.read_writes_full _ _ _ _ _).trans (congrArg (k0_pay24 (F := F) (wordAt xt i)) (ld_whole arg15 harg15 xs0 _))
  isplitl [H11]
  · iexists _; isplitr; swap; · iexact H11
    ipureintro
    exact (View.read_writes_full _ _ _ _ _).trans (congrArg (fun a => k0_pay11 (k0_pay25 (wordAt xt i) a)) (ld_whole arg15 harg15 xs0 _))
  isplitl [H12]
  · iexists _; isplitr; · ipureintro; exact harg15.read_unread _
    iexact H12
  isplitl [H13]
  · iexists _; isplitr; · ipureintro; exact harg16.read_unread _
    iexact H13
  iexact HT

end Cert.Kernel.Pool

end
-- ==== Proof.Kernel.SoundG.lean ====
/- The body obligation at the points of one case. The last point of a batch past its length: a block of zeros, and the pooled row and its codes. -/
module

public import proofs.«01_k».proof.Proof.Kernel.Data
public import proofs.«01_k».proof.Proof.Kernel.RunG

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_G (hO : Ok m) (c : Dev nD) (t : Fin (cfgM m hO).N) (h0 : ¬t.val % 180 = 0) (h1 : ¬t.val % 9 = 0) (h2 : cond0_2 (grid0.coords t) (wd m hO t)) (h4 : t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t ((hcond0_4 t).mpr h4)]; try rfl, after0_9]
  rw [show (dats m hO 0 c).leavesExact 10 t = owns (c : Thread nD τ) (ms0_10 m hO t) fullShare ((dats m hO 0 c).after 10 t) from by
    unfold Dat.leavesExact; rw [liveAt0_10 m hO t ((hcond0_4 t).mpr h4)]; try rfl, after0_10]
  rw [show (dats m hO 0 c).leavesExact 11 t = owns (c : Thread nD τ) (ms0_11 m hO t) fullShare ((dats m hO 0 c).after 11 t) from by
    unfold Dat.leavesExact; rw [liveAt0_11 m hO t ((hcond0_4 t).mpr h4)]; try rfl, after0_11]
  have hz : t.val ≠ 0 := by omega
  rw [PhiS_castSucc m hO c t, PhiS_pos m hO c _ _ hz, PhiT0_eq]
  rw [accAt_next m hO c t h1, accStep_inactive m hO c t h2, zmAt_inactive m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_G c (grid0.coords t) _ _ _ _ _ _ _ _ _ _ _ _ _ _ _ _ _ _ _ _ _ _ _ _ _ _ _ _ (tbl m) (fun h => h0 ((hcond0_0 t).mp h)) (fun h => h1 ((hcond0_1 t).mp h)) h2 (fun h => (cond0_3_iff _ _).mp h h2) ((hcond0_4 t).mpr h4) (iblk m hO c 0 t) (iblk m hO c 1 t) (iblk m hO c 2 t) (iblk m hO c 3 t) (iblk m hO c 4 t) (iblk m hO c 5 t) (iblk m hO c 6 t) (iblk m hO c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Pool

end
-- ==== Proof.Kernel.Frame.lean ====
/- The run of @main around the region, and the frame. -/
module

public import proofs.«01_k».proof.Proof.Kernel.SoundA
public import proofs.«01_k».proof.Proof.Kernel.SoundB
public import proofs.«01_k».proof.Proof.Kernel.SoundC
public import proofs.«01_k».proof.Proof.Kernel.SoundD
public import proofs.«01_k».proof.Proof.Kernel.SoundE
public import proofs.«01_k».proof.Proof.Kernel.SoundG
public import Idealize.ShloMosaic.Lib.Claim

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every batch's first block is active: its length is positive. -/
def Act : Prop := ∀ t : Fin grid0.N, t.val % 9 = 0 → ¬cond0_2 (grid0.coords t) (wordAt (tbl m) (grid0.coords t))

/-- The body at any point: the closed forms and the word say which case the point is in. -/
theorem sound_body (hO : Ok m) (hP : Act m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 180 = 0
  · exact sound_A m hO c t h0 (by omega) (hP t (by omega)) (by omega)
  by_cases h1 : t.val % 9 = 0
  · exact sound_B m hO c t h0 h1 (hP t h1) (by omega)
  by_cases h4 : t.val % 9 = 8
  · by_cases h2 : cond0_2 (grid0.coords t) (wd m hO t)
    · exact sound_G m hO c t h0 h1 h2 h4
    · exact sound_E m hO c t h0 h1 h2 h4
  · by_cases h2 : cond0_2 (grid0.coords t) (wd m hO t)
    · exact sound_D m hO c t h0 h1 h2 h4
    · exact sound_C m hO c t h0 h1 h2 h4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hP : Act m) (c : Dev nD) : BodyObligation (dats (F := F) m hO 0 c) (defs₀ (F := F)) Variants.none () Set.univ := fun t => by
  rw [bigSep_W0, bigSep_W0, defs₀_row m hO]
  exact triple_restated (sound_body m hO hP c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 180 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hP : Act m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO hP c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hP : Act m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO hP)

/-- `frame` without the counters: the argument arrays end unchanged. -/
theorem unchanged (hO : Ok m) (hP : Act m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO hP)

/-- THE FRAME, from the tables' side condition and the activity of every batch's first point. -/
theorem frame (hO : Ok m) (hP : Act m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hP) ((θ_run defs _ _).mono (fun _ h => h.2) (run_main_quiescent m ρ hO hP))

end Cert.Kernel.Pool

end
-- ==== Proof.Words.lean ====
/- The block index the two prefetched index maps compute from a row count: the smaller of the grid's second coordinate
   and the block of the last valid row. -/
module

public import Idealize.ShloMosaic.Lib.Routing.Words

@[expose] public section

namespace Cert.Words

open Idealize.ShloMosaic Idealize.ShloMosaic.Routing Idealize.ShloMosaic.WordCmp

/-- Floor division of `w − 1` by 128 as the index maps spell it: truncating division, corrected where the signs differ
    and the remainder is not zero. -/
def lastBlk (w : BitVec 32) : BitVec 32 :=
  let v2 : BitVec 32 := Scalar.subi w 1#32
  let v3 : BitVec 32 := Scalar.divsi v2 128#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 128#32 0#32)) (Scalar.extui (Scalar.cmpi .slt 128#32 0#32))
  let v17 : BitVec 1 := Scalar.andi (Scalar.cmpi .ne v8 v13) (Scalar.cmpi .ne (Scalar.remsi v2 128#32) 0#32)
  Scalar.select v17 (Scalar.subi v3 1#32) v3

/-- On a positive row count `n` it is `(n − 1) / 128`. -/
theorem lastBlk_eq {n : ℕ} (h1 : 1 ≤ n) (h2 : n < 2 ^ 31) : lastBlk (BitVec.ofNat 32 n) = BitVec.ofNat 32 ((n - 1) / 128) := by
  have e2 : Scalar.subi (BitVec.ofNat 32 n) 1#32 = BitVec.ofNat 32 (n - 1) := ofNat32_sub h1
  have e3 : Scalar.divsi (BitVec.ofNat 32 (n - 1)) 128#32 = BitVec.ofNat 32 ((n - 1) / 128) :=
    Routing.divsi_word .scalar (by omega) (by decide) (by decide)
  have e4 : Scalar.remsi (BitVec.ofNat 32 (n - 1)) 128#32 = BitVec.ofNat 32 ((n - 1) % 128) :=
    Routing.remsi_word .scalar (by omega) (by decide) (by decide)
  have e13 : Scalar.subi (Scalar.extui (Scalar.cmpi .sgt 128#32 0#32)) (Scalar.extui (Scalar.cmpi .slt 128#32 0#32)) = (1#32 : BitVec 32) := by
    decide
  unfold lastBlk
  simp only [e2, e3, e4, e13]
  rcases Nat.eq_zero_or_pos (n - 1) with h | h
  · rw [h]; decide
  · have e5 : Scalar.cmpi .sgt (BitVec.ofNat 32 (n - 1)) 0#32 = 1#1 := by
      show IntOp.cmpi .sgt (BitVec.ofNat 32 (n - 1)) (BitVec.ofNat 32 0) = 1#1
      show BitVec.ofBool (BitVec.slt (BitVec.ofNat 32 0) (BitVec.ofNat 32 (n - 1))) = 1#1
      rw [slt_ofNat32 (by decide) (by omega)]
      simp [h]
    have e6 : Scalar.cmpi .slt (BitVec.ofNat 32 (n - 1)) 0#32 = 0#1 := by
      show BitVec.ofBool (BitVec.slt (BitVec.ofNat 32 (n - 1)) (BitVec.ofNat 32 0)) = 0#1
      rw [slt_ofNat32 (by omega) (by decide)]
      simp
    rw [e5, e6]
    have e7 : Scalar.cmpi .ne (Scalar.subi (Scalar.extui (1#1 : BitVec 1)) (Scalar.extui (0#1 : BitVec 1))) (1#32 : BitVec 32) = 0#1 := by
      decide
    rw [e7]
    show Scalar.select (0#1 &&& _) _ _ = _
    rw [BitVec.zero_and]
    rfl

/-- The block index the two maps give at the second coordinate `k`. -/
def blkOf (k w : BitVec 32) : BitVec 32 := Scalar.minsi k (lastBlk w)

/-- As a number: the smaller of the coordinate and the last valid row's block. -/
theorem blkOf_toNat {n k : ℕ} (h1 : 1 ≤ n) (h2 : n < 2 ^ 31) (hk : k < 9) :
    (blkOf (BitVec.ofNat 32 k) (BitVec.ofNat 32 n)).toNat = min k ((n - 1) / 128) := by
  unfold blkOf
  rw [lastBlk_eq h1 h2]
  show (IntOp.minsi (BitVec.ofNat 32 k) (BitVec.ofNat 32 ((n - 1) / 128))).toNat = _
  unfold IntOp.minsi
  rw [slt_ofNat32 (by omega) (by omega)]
  by_cases h : k < (n - 1) / 128
  · simp only [h, decide_true, if_true, BitVec.toNat_ofNat]; omega
  · simp only [h, decide_false, BitVec.toNat_ofNat]
    simp only [Bool.false_eq_true, if_false, BitVec.toNat_ofNat]; omega

end Cert.Words
-- ==== Proof.Kernel.Pre.lean ====
/- What the precondition gives: positive row counts, hence windows inside their arrays and a first block that is not skipped. -/
module

public import proofs.«01_k».proof.Proof.Kernel.Frame
public import proofs.«01_k».proof.Proof.Words
public import proofs.«01_k».proof.Defs
public import Idealize.ShloMosaic.Lib.ReduceAll
public import Idealize.ShloMosaic.Lib.StableHlo.Predicate
public import Idealize.ShloMosaic.Lib.ValueIdxCore

@[expose] public section

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row count a point's word is: the entry of the lengths array at the point's first coordinate. -/
theorem wordAt_eq (m : (ℓ : Loc nD τ sig) → Buf (Elt F) ℓ) (i : grid0.Coords) :
    wordAt (tbl m) i = m (((0 : Dev nD).tc : Thread nD τ).loc main_arg8) (ValueIdx.ix1 (i 0)) := by
  have h : wordAt (tbl m) i = V m 0 main_arg8 (ValueIdx.ix1 (i 0)) := by
    refine congrArg (V m 0 main_arg8) (funext fun a : Fin 1 => Fin.ext ?_)
    have h0 : (i 0).val < 20 := (i 0).isLt
    match a with
    | 0 =>
      show (BitVec.ofNat 32 (i 0).val).toNat + 0 * 1 = (i 0).val
      rw [BitVec.toNat_ofNat]; omega
  rw [h, V_main_arg8 m 0]

/-- Every row count the table holds is positive. -/
def Pos (m : (ℓ : Loc nD τ sig) → Buf (Elt F) ℓ) : Prop := ∀ i : grid0.Coords, ∃ n : ℕ, 1 ≤ n ∧ n < 2 ^ 31 ∧ wordAt (tbl m) i = BitVec.ofNat 32 n

/-- A word that is at least one as a signed number is a natural between one and 2³¹. -/
theorem pos_word (w : BitVec 32) (h : IntOp.cmpi .sge w 1#32 = 1#1) : ∃ n : ℕ, 1 ≤ n ∧ n < 2 ^ 31 ∧ w = BitVec.ofNat 32 n := by
  have h' : (1 : Int) ≤ w.toInt := by
    have h0 : BitVec.ofBool (BitVec.sle 1#32 w) = 1#1 := h
    rw [StableHlo.Predicate.ofBool_eq_one_iff] at h0
    rw [BitVec.sle_iff_toInt_le] at h0
    exact h0
  have hw := w.isLt
  rw [BitVec.toInt_eq_toNat_cond] at h'
  refine ⟨w.toNat, ?_, ?_, BitVec.eq_of_toNat_eq (by rw [BitVec.toNat_ofNat, Nat.mod_eq_of_lt hw])⟩ <;> (split at h' <;> omega)

/-- The index map of the residual's window, spelt out. -/
theorem transform_1_eq (pf : pre0.Contents (Elt F)) (i : grid0.Coords) :
    cc0_transform_1 k0_off1_inb numel1_S1 pf i = ![(BitVec.ofNat 32 (i 0).val).toNat, (Words.blkOf (BitVec.ofNat 32 (i 1).val) (wordAt pf i)).toNat, 0] := rfl
/-- The index map of the codes' window, spelt out. -/
theorem transform_2_eq (pf : pre0.Contents (Elt F)) (i : grid0.Coords) :
    cc0_transform_2 k0_off1_inb numel1_S1 pf i = ![(BitVec.ofNat 32 (i 0).val).toNat, (Words.blkOf (BitVec.ofNat 32 (i 1).val) (wordAt pf i)).toNat, 0] := rfl

/-- The block row the two windows read at a point, as a number. -/
theorem blk_toNat {m : (ℓ : Loc nD τ sig) → Buf (Elt F) ℓ} (i : grid0.Coords) {n : ℕ} (h1 : 1 ≤ n) (h2 : n < 2 ^ 31) (h : wordAt (tbl m) i = BitVec.ofNat 32 n) :
    (Words.blkOf (BitVec.ofNat 32 (i 1).val) (wordAt (tbl m) i)).toNat = min (i 1).val ((n - 1) / 128) := by
  rw [h]; exact Words.blkOf_toNat h1 h2 (i 1).isLt

/-- The first coordinate as a word and back. -/
theorem c0_toNat (i : grid0.Coords) : (BitVec.ofNat 32 (i 0).val).toNat = (i 0).val := by
  have h : (i 0).val < 20 := (i 0).isLt
  rw [BitVec.toNat_ofNat]; omega

/-- With positive row counts the two prefetched windows read inside their arrays. -/
theorem ok_of_pos {m : (ℓ : Loc nD τ sig) → Buf (Elt F) ℓ} (hp : Pos m) : Ok m := by
  refine ⟨fun i => ?_, fun i => ?_⟩
  · obtain ⟨n, h1, h2, hn⟩ := hp i
    have hb : ∀ a, (cc0_transform_1 k0_off1_inb numel1_S1 (tbl m) i a + 1) * S1x128x1536.size a ≤ S20x1152x1536.size a := by
      have h0 : (i 0).val < 20 := (i 0).isLt
      have h9 : (i 1).val < 9 := (i 1).isLt
      rw [transform_1_eq, blk_toNat i h1 h2 hn, c0_toNat]
      intro a
      match a with
      | 0 => show ((i 0).val + 1) * 1 ≤ 20; omega
      | 1 => show (min (i 1).val ((n - 1) / 128) + 1) * 128 ≤ 1152; omega
      | 2 => show (0 + 1) * 1536 ≤ 1536; omega
    exact ⟨hb, .inr (Affine.block_words_dvd (of_decide_eq_true rfl) (by decide))⟩
  · obtain ⟨n, h1, h2, hn⟩ := hp i
    have hb : ∀ a, (cc0_transform_2 k0_off1_inb numel1_S1 (tbl m) i a + 1) * S1x128x8960.size a ≤ S20x1152x8960.size a := by
      have h0 : (i 0).val < 20 := (i 0).isLt
      have h9 : (i 1).val < 9 := (i 1).isLt
      rw [transform_2_eq, blk_toNat i h1 h2 hn, c0_toNat]
      intro a
      match a with
      | 0 => show ((i 0).val + 1) * 1 ≤ 20; omega
      | 1 => show (min (i 1).val ((n - 1) / 128) + 1) * 128 ≤ 1152; omega
      | 2 => show (0 + 1) * 8960 ≤ 8960; omega
    exact ⟨hb, .inr (Affine.block_words_dvd (of_decide_eq_true rfl) (by decide))⟩

/-- The skipped blocks, in numbers: those that start at or after the row count. -/
theorem skip_iff (i : grid0.Coords) {n : ℕ} (h2 : n < 2 ^ 31) : cond0_2 i (BitVec.ofNat 32 n) ↔ n ≤ (i 1).val * 128 := by
  have h9 : (i 1).val < 9 := (i 1).isLt
  have e : Scalar.muli (BitVec.ofNat 32 (i 1).val) 128#32 = BitVec.ofNat 32 ((i 1).val * 128) := by
    show BitVec.ofNat 32 (i 1).val * BitVec.ofNat 32 128 = _
    rw [← BitVec.ofNat_mul]
  show Scalar.cmpi .ne (Scalar.extui (Scalar.cmpi .sge (Scalar.muli (BitVec.ofNat 32 (i 1).val) 128#32) (BitVec.ofNat 32 n))) 0#32 = 1#1 ↔ _
  rw [e]
  by_cases h : n ≤ (i 1).val * 128
  · have hs : Scalar.cmpi .sge (BitVec.ofNat 32 ((i 1).val * 128)) (BitVec.ofNat 32 n) = 1#1 := by
      show BitVec.ofBool (BitVec.sle (BitVec.ofNat 32 n) (BitVec.ofNat 32 ((i 1).val * 128))) = 1#1
      exact (StableHlo.Predicate.sle_ofNat_iff _ _ h2 (by omega)).2 h
    rw [hs]
    exact ⟨fun _ => h, fun _ => by decide⟩
  · have hs : Scalar.cmpi .sge (BitVec.ofNat 32 ((i 1).val * 128)) (BitVec.ofNat 32 n) = 0#1 := by
      show BitVec.ofBool (BitVec.sle (BitVec.ofNat 32 n) (BitVec.ofNat 32 ((i 1).val * 128))) = 0#1
      cases hb : BitVec.sle (BitVec.ofNat 32 n) (BitVec.ofNat 32 ((i 1).val * 128)) with
      | false => rfl
      | true => exact absurd ((StableHlo.Predicate.sle_ofNat_iff _ _ h2 (by omega)).1 (by rw [hb]; rfl)) h
    rw [hs]
    exact ⟨fun hc => absurd hc (by decide), fun hc => absurd hc h⟩

/-- A point's first coordinate: the row of the batch. -/
theorem coord0 (t : Fin grid0.N) : ((grid0.coords t) 0).val = t.val / 9 := by
  have e : (grid0.coords t 0).val = t.val / 9 % 20 := Pipeline.Grid.coords_val t 0 (by decide) rfl
  have ht : t.val < 180 := Nat.lt_of_lt_of_eq t.isLt N_0
  rw [e]; omega
/-- A point's second coordinate: the block of rows. -/
theorem coord1 (t : Fin grid0.N) : ((grid0.coords t) 1).val = t.val % 9 := by
  have e : (grid0.coords t 1).val = t.val / 1 % 9 := Pipeline.Grid.coords_val t 1 (by decide) rfl
  rw [e]; omega

/-- With positive row counts a row's first block is not skipped. -/
theorem act_of_pos {m : (ℓ : Loc nD τ sig) → Buf (Elt F) ℓ} (hp : Pos m) : Act m := by
  intro t ht hc
  obtain ⟨n, h1, h2, hn⟩ := hp (grid0.coords t)
  rw [hn, skip_iff _ h2] at hc
  have h0 : ((grid0.coords t) 1).val = 0 := (coord1 t).trans ht
  omega

/-- The precondition gives positive row counts. -/
theorem pos_of_pre [Cert.Pre_positive.Facts] {m : (ℓ : Loc nD τ sig) → Buf (Elt Bits) ℓ} (h : Pre_Kernel m) : Pos m := by
  intro i
  refine pos_word _ ?_
  rw [wordAt_eq]
  have h0 := congrFun (h 0) (Shape.Idx.first Cert.Pre_positive.Facts.h_S_)
  simp only [Cert.Pre_positive.fn, constantI] at h0
  haveI : Subsingleton Cert.Pre_positive.S_.Idx := ⟨fun a b => funext fun x => x.elim0⟩
  exact Host.reduce_andi_all _ _ _ _ _ h0 _

end Cert.Kernel.Pool

end
-- ==== Proof.KernelIdeal.Base.lean ====
/- The frame kit of the kernel: @main around its region, the prefetched table, the windows' blocks, where each
   window is fetched and written back, the body's branch conditions, the staging and scratch memrefs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg2)) is fetched at the first point only, at any contents of the tables (its index map reads none). -/
theorem fetch0_0 (a : (pcfg0 (F := F)).Adm) : ∀ t : Fin (cfg0 a).N, ((cfg0 a).win 0).fetch t = true ↔ t.val % 180 = 0 :=
  (fun t => Pipeline.Window.fetchOf_const cc0_transform_0 (fun _ _ => rfl) (n := 180) (by decide) t : ∀ t : Fin grid0.N, Pipeline.Window.fetchOf grid0 false cc0_transform_0 t = true ↔ t.val % 180 = 0)
-- window 1: no schedule fact — its index map reads a prefetched table, so where it is fetched or written back depends on the tables' contents
-- window 2: no schedule fact — its index map reads a prefetched table, so where it is fetched or written back depends on the tables' contents
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 180 = 0 :=
  (fun t => Pipeline.Window.fetchOf_const cc0_transform_3 (fun _ _ => rfl) (n := 180) (by decide) t : ∀ t : Fin grid0.N, Pipeline.Window.fetchOf grid0 false cc0_transform_3 t = true ↔ t.val % 180 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 180 = 0 :=
  (fun t => Pipeline.Window.fetchOf_const cc0_transform_4 (fun _ _ => rfl) (n := 180) (by decide) t : ∀ t : Fin grid0.N, Pipeline.Window.fetchOf grid0 false cc0_transform_4 t = true ↔ t.val % 180 = 0)
/-- Window 5 (operand 6 (%1)) is fetched at the first point only, at any contents of the tables (its index map reads none). -/
theorem fetch0_5 (a : (pcfg0 (F := F)).Adm) : ∀ t : Fin (cfg0 a).N, ((cfg0 a).win 5).fetch t = true ↔ t.val % 180 = 0 :=
  (fun t => Pipeline.Window.fetchOf_const cc0_transform_5 (fun _ _ => rfl) (n := 180) (by decide) t : ∀ t : Fin grid0.N, Pipeline.Window.fetchOf grid0 false cc0_transform_5 t = true ↔ t.val % 180 = 0)
/-- Window 6 (operand 7 (%2)) is fetched at the first point only, at any contents of the tables (its index map reads none). -/
theorem fetch0_6 (a : (pcfg0 (F := F)).Adm) : ∀ t : Fin (cfg0 a).N, ((cfg0 a).win 6).fetch t = true ↔ t.val % 180 = 0 :=
  (fun t => Pipeline.Window.fetchOf_const cc0_transform_6 (fun _ _ => rfl) (n := 180) (by decide) t : ∀ t : Fin grid0.N, Pipeline.Window.fetchOf grid0 false cc0_transform_6 t = true ↔ t.val % 180 = 0)
/-- Window 7 (operand 8 (%3)) is fetched at the first point only, at any contents of the tables (its index map reads none). -/
theorem fetch0_7 (a : (pcfg0 (F := F)).Adm) : ∀ t : Fin (cfg0 a).N, ((cfg0 a).win 7).fetch t = true ↔ t.val % 180 = 0 :=
  (fun t => Pipeline.Window.fetchOf_const cc0_transform_7 (fun _ _ => rfl) (n := 180) (by decide) t : ∀ t : Fin grid0.N, Pipeline.Window.fetchOf grid0 false cc0_transform_7 t = true ↔ t.val % 180 = 0)
/-- Window 8 (result 0 (%4#0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 1 (%4#1)) is written back at the points ≡ 8 (mod 9), at any contents of the tables (its index map reads none). -/
theorem flush0_9 (a : (pcfg0 (F := F)).Adm) : ∀ t : Fin (cfg0 a).N, ((cfg0 a).win 9).flush t = true ↔ t.val % 9 = 8 :=
  (fun t => Pipeline.Window.flushOf_reads cc0_transform_9 reads0_9 hreads0_9 0 (by decide) (by decide) (Pipeline.Window.sep_of_coord cc0_transform_9 0 0 (fun _ => rfl) (by decide)) (P := 9) (m := 8) (by decide) rfl t : ∀ t : Fin grid0.N, Pipeline.Window.flushOf grid0 true cc0_transform_9 t = true ↔ t.val % 9 = 8)
/-- Window 10 (result 2 (%4#2)) is written back at the points ≡ 8 (mod 9), at any contents of the tables (its index map reads none). -/
theorem flush0_10 (a : (pcfg0 (F := F)).Adm) : ∀ t : Fin (cfg0 a).N, ((cfg0 a).win 10).flush t = true ↔ t.val % 9 = 8 :=
  (fun t => Pipeline.Window.flushOf_reads cc0_transform_10 reads0_10 hreads0_10 0 (by decide) (by decide) (Pipeline.Window.sep_of_coord cc0_transform_10 0 0 (fun _ => rfl) (by decide)) (P := 9) (m := 8) (by decide) rfl t : ∀ t : Fin grid0.N, Pipeline.Window.flushOf grid0 true cc0_transform_10 t = true ↔ t.val % 9 = 8)
/-- Window 11 (result 3 (%4#3)) is written back at the points ≡ 8 (mod 9), at any contents of the tables (its index map reads none). -/
theorem flush0_11 (a : (pcfg0 (F := F)).Adm) : ∀ t : Fin (cfg0 a).N, ((cfg0 a).win 11).flush t = true ↔ t.val % 9 = 8 :=
  (fun t => Pipeline.Window.flushOf_reads cc0_transform_11 reads0_11 hreads0_11 0 (by decide) (by decide) (Pipeline.Window.sep_of_coord cc0_transform_11 0 0 (fun _ => rfl) (by decide)) (P := 9) (m := 8) (by decide) rfl t : ∀ t : Fin grid0.N, Pipeline.Window.flushOf grid0 true cc0_transform_11 t = true ↔ t.val % 9 = 8)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ffn_down_ln_pool (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 1).trans (((dats 0 c).arrAt_in 1 rfl _).trans ((hA c 1).trans (V_main_arg0 m c))),
      ((h c).1 2).trans (((dats 0 c).arrAt_in 2 rfl _).trans ((hA c 2).trans (V_main_arg1 m c))),
      ((h c).1 0).trans (((dats 0 c).arrAt_in 0 rfl _).trans ((hA c 0).trans (V_main_arg2 m c))),
      ((h c).1 3).trans (((dats 0 c).arrAt_in 3 rfl _).trans ((hA c 3).trans (V_main_arg3 m c))),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c)),
      (((h c).2 main_arg8 (by decide : main_arg8 ∈ Pipeline.restRefs sig spec0)).trans (W_main_arg8 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 180 = 0 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 180 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_1 : ∀ t : Fin grid0.N, cond0_1 (grid0.coords t) ↔ t.val % 9 = 0 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_1, e0, e1]
    word_cmp
   : ∀ t : Fin grid0.N, cond0_1 (grid0.coords t) ↔ t.val % 9 = 0)

/-- The length of the batch of point `i`: the word of the table the body loads and branches on. -/
abbrev wordAt (xt : pre0.Contents (Elt F)) (i : grid0.Coords) : BitVec 32 :=
  xt.at 0 (Rect.unit (s := S20) (k0_off1 i) S1.size (k0_off1_inb i)) numel1_S1

/-- The table entry the printed idle table compares is that word. -/
theorem atD_eq (xt : pre0.Contents (Elt F)) (i : grid0.Coords) : xt.atD 0 (k0_off1 i) = wordAt xt i := by
  have h : ∀ a : Fin 1, k0_off1 i a + 1 ≤ S20.size a := fun a => match a with | 0 => k0_off1_inb i 0
  refine (dif_pos h).trans ?_
  refine congrArg (xt 0) (funext fun a : Fin 1 => Fin.ext ?_)
  match a with
  | 0 => rfl

/-- The condition of the body's `scf.if` 2: the block starts at or after the batch's length. -/
abbrev cond0_2 (i : grid0.Coords) (w : BitVec 32) : Prop := k0_cond3 i w = 1#1
/-- The condition of the body's `scf.if` 3: the block starts before the batch's length. -/
abbrev cond0_3 (i : grid0.Coords) (w : BitVec 32) : Prop := k0_cond4 i w = 1#1

/-- The two conditions are each other's negation. -/
theorem cond0_3_iff (i : grid0.Coords) (w : BitVec 32) : cond0_3 i w ↔ ¬cond0_2 i w := by
  simp only [cond0_2, cond0_3, k0_cond3, k0_cond4]
  generalize Scalar.muli (BitVec.ofNat 32 (i 1).val) 128#32 = x
  have h : IntOp.cmpi .sge x w = BitVec.ofBool (!x.slt w) := by
    simp only [IntOp.cmpi, BitVec.sle_eq_not_slt]
  have h' : IntOp.cmpi .slt x w = BitVec.ofBool (x.slt w) := rfl
  simp only [Scalar.cmpi, h, h']
  cases x.slt w <;> decide

/-- The condition of the body's `scf.if` 4 (`k0_h5`), from the grid coordinates (the skeleton's scalar
    chain substituted). -/
abbrev cond0_4 (i : grid0.Coords) : Prop := k0_cond5 i = 1#1
/-- It holds at the points ≡ 8 (mod 9) — by arithmetic of the point. -/
theorem hcond0_4 : ∀ t : Fin grid0.N, cond0_4 (grid0.coords t) ↔ t.val % 9 = 8 :=
  (fun t => by
    have ht : t.val < 180 := Nat.lt_of_lt_of_eq t.isLt N_0
    have e0 : (grid0.coords t 0).val = t.val / 9 % 20 := Pipeline.Grid.coords_val t 0 (by decide) rfl
    have e1 : (grid0.coords t 1).val = t.val / 1 % 9 := Pipeline.Grid.coords_val t 1 (by decide) rfl
    simp only [cond0_4, k0_cond5, e0, e1]
    word_cmp
   : ∀ t : Fin grid0.N, cond0_4 (grid0.coords t) ↔ t.val % 9 = 8)

/-! ## The kernel body on any staging memrefs: a subtype the run finds -/

/-- One staging buffer of output window 8, through which its contents are stated (`View.read_writes_of_cover`: the
    choice does not matter). -/
abbrev VO0_8 : View sig .tc .vmem S1x128x1536 .f32 := (Memref.whole cc0_stg8_0 : Memref sig .tc .vmem S1x128x1536 .f32).view
/-- One staging buffer of output window 9, through which its contents are stated (`View.read_writes_of_cover`: the
    choice does not matter). -/
abbrev VO0_9 : View sig .tc .vmem S1x1x1536 .f32 := (Memref.whole cc0_stg9_0 : Memref sig .tc .vmem S1x1x1536 .f32).view
/-- One staging buffer of output window 10, through which its contents are stated (`View.read_writes_of_cover`: the
    choice does not matter). -/
abbrev VO0_10 : View sig .tc .vmem S1x1x1536 .i8 := (Memref.whole cc0_stg10_0 : Memref sig .tc .vmem S1x1x1536 .i8).view
/-- One staging buffer of output window 11, through which its contents are stated (`View.read_writes_of_cover`: the
    choice does not matter). -/
abbrev VO0_11 : View sig .tc .vmem S1x1x128 .f32 := (Memref.whole cc0_stg11_0 : Memref sig .tc .vmem S1x1x128 .f32).view
/-- Each window's current staging memref at point `t`, spelled as the pipeline passes it (`bodyAt0`), and its wholeness. -/
abbrev ms0_0 (hO : Ok m) (t : Fin (cfgM m hO).N) : Memref sig .tc .vmem S20x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x1536 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x8960 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8960x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1536 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1536 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1536 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1536 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x1536 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1536 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1536 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x128 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S8x1536 .f32 := Memref.whole cc0_scratch0
abbrev scM0_1 : Memref sig .tc .vmem S1152x128 .f32 := Memref.whole cc0_scratch1
/-- The scratch `arg15` the kernel carries between points, as a view: what it holds is stated through it. -/
abbrev VS0_0 : View sig .tc .vmem S8x1536 .f32 := scM0_0.view
/-- The scratch `arg16` the kernel carries between points, as a view: what it holds is stated through it. -/
abbrev VS0_1 : View sig .tc .vmem S1152x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Pool

end
-- ==== Proof.KernelIdeal.Vals.lean ====
/- The values one grid point leaves: the transposed scales, the masked block, the running sums. -/
module

public import proofs.«01_k».proof.Proof.KernelIdeal.Base
public import Idealize.ShloMosaic.Lib.VecWindow
public import Idealize.ShloMosaic.Lib.WholeRead
public import Idealize.ShloMosaic.Lib.ValueIdxCore
public import Idealize.ShloMosaic.Lib.Pipeline.Value

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.ValueIdx

/-- The transposed scales, zero in the lanes past the twenty batches: what the first point leaves in the second scratch. -/
def hstVal (x0 : Vec F S20x1152 .f32) : Vec F S1152x128 .f32 := fun y =>
  if h : (y 1).val < 20 then x0 (ix2 (n0 := 20) (n1 := 1152) ⟨(y 1).val, h⟩ (y 0)) else Scalar.ofBits .f32 0x00000000#32

/-- The 128 rows of the transposed scales that a grid point reads. -/
def rowsAt (i : grid0.Coords) (h : Vec F S1152x128 .f32) : Vec F S128x128 .f32 := fun y =>
  h ((Rect.unit (s := S1152x128) (k0_off2 i) S128x128.size (k0_off2_inb i)).toLoadRect.idx y)

/-- The layer-normed, masked block of one grid point. -/
def zmVal (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) : Vec F S1x128x1536 .f32 :=
  k0_pay9 i w (k0_pay17 (BitVec.ofNat 32 (i 0).val) x2 x3 (rowsAt i h) x1 x4 x5)
    (k0_pay18 (BitVec.ofNat 32 (i 0).val) x2 x3 (rowsAt i h) x1 x4 x5) k0_pay19 x6 x7

/-- The running sums after a grid point whose block is active. -/
def accVal (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) (a : Vec F S8x1536 .f32) : Vec F S8x1536 .f32 :=
  k0_pay10 i w (k0_pay17 (BitVec.ofNat 32 (i 0).val) x2 x3 (rowsAt i h) x1 x4 x5)
    (k0_pay18 (BitVec.ofNat 32 (i 0).val) x2 x3 (rowsAt i h) x1 x4 x5) k0_pay19 x6 x7 a

/-- A whole window read back through a rectangle of the window's own sizes. -/
theorem ld_whole {sp : Space} {s : Shape} {e : EltTy} (m : Memref sig .tc sp s e) (h : m.IsWhole) (x : Vec F s e) {off : Fin s.rank → ℕ}
    (inb : ∀ a, off a + s.size a ≤ s.size a) : View.readAt (Elt F) m.view (Rect.unit off s.size inb).toLoadRect (h.unread x) = x :=
  (View.readAt_full m.view _ inb).trans (h.read_unread x)

/-- The rows read back from whole contents. -/
theorem ld_rows (i : grid0.Coords) (m : Memref sig .tc .vmem S1152x128 .f32) (f) (h : Vec F S1152x128 .f32) (hf : View.read (Elt F) m.view f = h) :
    View.readAt (Elt F) m.view (Rect.unit (s := S1152x128) (k0_off2 i) S128x128.size (k0_off2_inb i)).toLoadRect f = rowsAt i h := by
  subst hf; rfl

/-- The block's payload, once its loads are known. -/
theorem close_zm (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32)
    (a0 : Vec F S128x128 .f32) (a1 : Vec F S1x128x1536 .bf16) (a2 : Vec F S1x128x8960 .fp8e4m3)
    (a3 : Vec F S8960x1536 .fp8e4m3) (a4 a5 a6 a7 : Vec F S1x1536 .f32)
    (e0 : a0 = rowsAt i h) (e1 : a1 = x1) (e2 : a2 = x2) (e3 : a3 = x3) (e4 : a4 = x4) (e5 : a5 = x5) (e6 : a6 = x6) (e7 : a7 = x7) :
    k0_pay9 i w (k0_pay17 (BitVec.ofNat 32 (i 0).val) a2 a3 a0 a1 a4 a5) (k0_pay18 (BitVec.ofNat 32 (i 0).val) a2 a3 a0 a1 a4 a5) k0_pay19 a6 a7
      = zmVal i w h x1 x2 x3 x4 x5 x6 x7 := by
  subst e0 e1 e2 e3 e4 e5 e6 e7; rfl

/-- The running sums' payload, once its loads are known. -/
theorem close_acc (i : grid0.Coords) (w : BitVec 32) (h : Vec F S1152x128 .f32) (x1 : Vec F S1x128x1536 .bf16) (x2 : Vec F S1x128x8960 .fp8e4m3)
    (x3 : Vec F S8960x1536 .fp8e4m3) (x4 x5 x6 x7 : Vec F S1x1536 .f32) (a : Vec F S8x1536 .f32)
    (a0 : Vec F S128x128 .f32) (a1 : Vec F S1x128x1536 .bf16) (a2 : Vec F S1x128x8960 .fp8e4m3)
    (a3 : Vec F S8960x1536 .fp8e4m3) (a4 a5 a6 a7 : Vec F S1x1536 .f32) (aa : Vec F S8x1536 .f32)
    (e0 : a0 = rowsAt i h) (e1 : a1 = x1) (e2 : a2 = x2) (e3 : a3 = x3) (e4 : a4 = x4) (e5 : a5 = x5) (e6 : a6 = x6) (e7 : a7 = x7) (ea : aa = a) :
    k0_pay10 i w (k0_pay17 (BitVec.ofNat 32 (i 0).val) a2 a3 a0 a1 a4 a5) (k0_pay18 (BitVec.ofNat 32 (i 0).val) a2 a3 a0 a1 a4 a5) k0_pay19 a6 a7 aa
      = accVal i w h x1 x2 x3 x4 x5 x6 x7 a := by
  subst e0 e1 e2 e3 e4 e5 e6 e7 ea; rfl

/-- One transposed, zero-padded block of scales, entry by entry. -/
theorem blk_apply (b : Vec F S20x128 .f32) (y : S128x128.Idx) :
    k0_pay12 b y = if h : (y 1).val < 20 then b (ix2 (n0 := 20) (n1 := 128) ⟨(y 1).val, h⟩ (y 0)) else Scalar.ofBits .f32 0x00000000#32 := by
  have hy1 : (y 1).val < 128 := (y 1).isLt
  unfold k0_pay12
  dsimp only
  rw [Idealize.ShloMosaic.shapeCast_self]
  refine (transpose_apply (s := S128x128) (t := S128x128) [1, 0] _ _ y (ix2 (n0 := 128) (n1 := 128) (y 1) (y 0)) (fun b => by match b with | 0 => rfl | 1 => rfl)).trans ?_
  split
  · rename_i h
    exact concatenate_pair_apply_left (t := S128x128) (s₁ := S20x128) (s₂ := S108x128) 0 _ _ _ (ix2 (n0 := 128) (n1 := 128) (y 1) (y 0)) rfl _ (fun b => by match b with | 0 => rfl | 1 => rfl)
  · rename_i h
    exact concatenate_pair_apply_right (t := S128x128) (s₁ := S20x128) (s₂ := S108x128) 0 _ _ _ (ix2 (n0 := 128) (n1 := 128) (y 1) (y 0)) rfl rfl (ix2 (n0 := 108) (n1 := 128) ⟨(y 1).val - 20, by omega⟩ (y 0))
      (fun b hb => by match b with | 0 => exact absurd rfl hb | 1 => rfl) (by show (y 1).val - 20 + 20 = (y 1).val; omega)

/-- One block's entries are those of `hstVal` at the block's rows. -/
theorem blk_hst (m3 : Memref sig .tc .vmem S20x1152 .f32) (h3 : m3.IsWhole) (x0 : Vec F S20x1152 .f32) (o : ℕ)
    (inb : ∀ a, (![0, o] : Fin 2 → ℕ) a + S20x128.size a ≤ S20x1152.size a) (inb' : ∀ a, (![o, 0] : Fin 2 → ℕ) a + S128x128.size a ≤ S1152x128.size a)
    (y : S128x128.Idx) :
    k0_pay12 (View.readAt (Elt F) m3.view (Rect.unit (s := S20x1152) ![0, o] S20x128.size inb).toLoadRect (h3.unread x0)) y
      = hstVal x0 ((Rect.unit (s := S1152x128) ![o, 0] S128x128.size inb').emb y) := by
  rw [blk_apply]
  have e1 : (((Rect.unit (s := S1152x128) ![o, 0] S128x128.size inb').emb y) 1).val = (y 1).val := by
    show 0 + 1 * (y 1).val = _; omega
  have e0 : (((Rect.unit (s := S1152x128) ![o, 0] S128x128.size inb').emb y) 0).val = o + (y 0).val := by
    show o + 1 * (y 0).val = _; omega
  unfold hstVal
  by_cases h : (y 1).val < 20
  · rw [dif_pos h, dif_pos (e1.symm ▸ h), h3.readAt_unread]
    refine congrArg x0 (funext fun a => Fin.ext ?_)
    match a with
    | 0 => show 0 + 1 * (y 1).val = _; rw [Nat.one_mul, Nat.zero_add]; exact e1.symm
    | 1 => show o + 1 * (y 0).val = _; rw [Nat.one_mul]; exact e0.symm
  · rw [dif_neg h, dif_neg (e1.symm ▸ h)]

/-- The nine blocks the first point stores. -/
def hstPieces (m3 : Memref sig .tc .vmem S20x1152 .f32) (h3 : m3.IsWhole) (x0 : Vec F S20x1152 .f32) : List (View.Piece (Elt F) S1152x128 .f32) :=
  [⟨Rect.unit (s := S1152x128) ![1024, 0] S128x128.size inb_S1152x128_S128x128_1024_0, k0_pay5 (View.readAt (Elt F) m3.view (Rect.unit (s := S20x1152) ![0, 1024] S20x128.size inb_S20x1152_S20x128_0_1024).toLoadRect (h3.unread x0))⟩,
   ⟨Rect.unit (s := S1152x128) ![896, 0] S128x128.size inb_S1152x128_S128x128_896_0, k0_pay4 (View.readAt (Elt F) m3.view (Rect.unit (s := S20x1152) ![0, 896] S20x128.size inb_S20x1152_S20x128_0_896).toLoadRect (h3.unread x0))⟩,
   ⟨Rect.unit (s := S1152x128) ![768, 0] S128x128.size inb_S1152x128_S128x128_768_0, k0_pay3 (View.readAt (Elt F) m3.view (Rect.unit (s := S20x1152) ![0, 768] S20x128.size inb_S20x1152_S20x128_0_768).toLoadRect (h3.unread x0))⟩,
   ⟨Rect.unit (s := S1152x128) ![640, 0] S128x128.size inb_S1152x128_S128x128_640_0, k0_pay2 (View.readAt (Elt F) m3.view (Rect.unit (s := S20x1152) ![0, 640] S20x128.size inb_S20x1152_S20x128_0_640).toLoadRect (h3.unread x0))⟩,
   ⟨Rect.unit (s := S1152x128) ![512, 0] S128x128.size inb_S1152x128_S128x128_512_0, k0_pay1 (k0_pay16 (View.readAt (Elt F) m3.view (Rect.unit (s := S20x1152) ![0, 512] S20x128.size inb_S20x1152_S20x128_0_512).toLoadRect (h3.unread x0)))⟩,
   ⟨Rect.unit (s := S1152x128) ![384, 0] S128x128.size inb_S1152x128_S128x128_384_0, k0_pay15 (View.readAt (Elt F) m3.view (Rect.unit (s := S20x1152) ![0, 384] S20x128.size inb_S20x1152_S20x128_0_384).toLoadRect (h3.unread x0))⟩,
   ⟨Rect.unit (s := S1152x128) ![256, 0] S128x128.size inb_S1152x128_S128x128_256_0, k0_pay14 (View.readAt (Elt F) m3.view (Rect.unit (s := S20x1152) ![0, 256] S20x128.size inb_S20x1152_S20x128_0_256).toLoadRect (h3.unread x0))⟩,
   ⟨Rect.unit (s := S1152x128) ![128, 0] S128x128.size inb_S1152x128_S128x128_128_0, k0_pay13 (View.readAt (Elt F) m3.view (Rect.unit (s := S20x1152) ![0, 128] S20x128.size inb_S20x1152_S20x128_0_128).toLoadRect (h3.unread x0))⟩,
   ⟨Rect.unit (s := S1152x128) ![0, 0] S128x128.size inb_S1152x128_S128x128_0_0, k0_pay12 (View.readAt (Elt F) m3.view (Rect.unit (s := S20x1152) ![0, 0] S20x128.size inb_S20x1152_S20x128_0_0).toLoadRect (h3.unread x0))⟩]

/-- The nine blocks fill the second scratch with the transposed scales. -/
theorem read_hst (v : View sig .tc .vmem S1152x128 .f32) (f : v.ty.Contents (Elt F)) (m3 : Memref sig .tc .vmem S20x1152 .f32) (h3 : m3.IsWhole) (x0 : Vec F S20x1152 .f32) :
    View.read (Elt F) v (v.writes (Elt F) f (hstPieces m3 h3 x0)) = hstVal x0 := by
  funext y
  refine View.read_writes_apply_of_pieces v f (hstVal x0) (hstPieces m3 h3 x0) ?_ y (View.cover_of_tiledL (hstPieces m3 h3 x0) S128x128.size (by sl_kernel_rfl) y)
  intro p hp
  simp only [hstPieces, List.mem_cons, List.not_mem_nil, or_false] at hp
  rcases hp with rfl | rfl | rfl | rfl | rfl | rfl | rfl | rfl | rfl
  · exact fun x => blk_hst m3 h3 x0 1024 inb_S20x1152_S20x128_0_1024 inb_S1152x128_S128x128_1024_0 x
  · exact fun x => blk_hst m3 h3 x0 896 inb_S20x1152_S20x128_0_896 inb_S1152x128_S128x128_896_0 x
  · exact fun x => blk_hst m3 h3 x0 768 inb_S20x1152_S20x128_0_768 inb_S1152x128_S128x128_768_0 x
  · exact fun x => blk_hst m3 h3 x0 640 inb_S20x1152_S20x128_0_640 inb_S1152x128_S128x128_640_0 x
  · exact fun x => blk_hst m3 h3 x0 512 inb_S20x1152_S20x128_0_512 inb_S1152x128_S128x128_512_0 x
  · exact fun x => blk_hst m3 h3 x0 384 inb_S20x1152_S20x128_0_384 inb_S1152x128_S128x128_384_0 x
  · exact fun x => blk_hst m3 h3 x0 256 inb_S20x1152_S20x128_0_256 inb_S1152x128_S128x128_256_0 x
  · exact fun x => blk_hst m3 h3 x0 128 inb_S20x1152_S20x128_0_128 inb_S1152x128_S128x128_128_0 x
  · exact fun x => blk_hst m3 h3 x0 0 inb_S20x1152_S20x128_0_0 inb_S1152x128_S128x128_0_0 x

end Cert.KernelIdeal.Pool

end
-- ==== Proof.KernelIdeal.Data.lean ====
/- The proof data of the pipeline: what each grid point leaves in the outputs and the two scratch buffers. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- Window 3 is never idle (an input). -/
theorem liveAt0_3 (hO : Ok m) : ∀ t : Fin (cfgM m hO).N, (cfgM m hO).idle 3 (grid0.coords t) = false := fun _ => rfl
/-- Window 4 is never idle (an input). -/
theorem liveAt0_4 (hO : Ok m) : ∀ t : Fin (cfgM m hO).N, (cfgM m hO).idle 4 (grid0.coords t) = false := fun _ => rfl
/-- Window 5 is never idle (an input). -/
theorem liveAt0_5 (hO : Ok m) : ∀ t : Fin (cfgM m hO).N, (cfgM m hO).idle 5 (grid0.coords t) = false := fun _ => rfl
/-- Window 6 is never idle (an input). -/
theorem liveAt0_6 (hO : Ok m) : ∀ t : Fin (cfgM m hO).N, (cfgM m hO).idle 6 (grid0.coords t) = false := fun _ => rfl
/-- Window 7 is never idle (an input). -/
theorem liveAt0_7 (hO : Ok m) : ∀ t : Fin (cfgM m hO).N, (cfgM m hO).idle 7 (grid0.coords t) = false := fun _ => rfl
/-- The block output is never idle: one of its two conditions holds. -/
theorem liveAt0_8 (hO : Ok m) (t : Fin (cfgM m hO).N) : (cfgM m hO).idle 8 (grid0.coords t) = false := by
  show (!(k0_cond3 (grid0.coords t) ((tbl m).atD 0 (k0_off1 (grid0.coords t))) == 1#1) && !(k0_cond4 (grid0.coords t) ((tbl m).atD 0 (k0_off1 (grid0.coords t))) == 1#1)) = false
  rw [atD_eq]
  have h := cond0_3_iff (grid0.coords t) (wordAt (tbl m) (grid0.coords t))
  simp only [cond0_2, cond0_3] at h
  by_cases h2 : k0_cond3 (grid0.coords t) (wordAt (tbl m) (grid0.coords t)) = 1#1
  · simp [h2]
  · simp [h.mpr h2]
/-- Output 9 is live at the last point of a batch, -/
theorem liveAt0_9 (hO : Ok m) (t : Fin (cfgM m hO).N) (h : cond0_4 (grid0.coords t)) : (cfgM m hO).idle 9 (grid0.coords t) = false := by
  show (!(k0_cond5 (grid0.coords t) == 1#1)) = false
  simp only [cond0_4] at h; simp [h]
/-- idle at the others, -/
theorem idleAt0_9 (hO : Ok m) (t : Fin (cfgM m hO).N) (h : ¬cond0_4 (grid0.coords t)) : (cfgM m hO).idle 9 (grid0.coords t) = true := by
  show (!(k0_cond5 (grid0.coords t) == 1#1)) = true
  simp only [cond0_4] at h; simp [h]
/-- and not written back there. -/
theorem noFlush0_9 (hO : Ok m) (t : Fin (cfgM m hO).N) (h : ¬t.val % 9 = 8) : ((cfgM m hO).win 9).flush t = false :=
  Bool.eq_false_iff.mpr fun e => h ((flush0_9 (adm m hO) t).mp e)
/-- Output 10 is live at the last point of a batch, -/
theorem liveAt0_10 (hO : Ok m) (t : Fin (cfgM m hO).N) (h : cond0_4 (grid0.coords t)) : (cfgM m hO).idle 10 (grid0.coords t) = false := by
  show (!(k0_cond5 (grid0.coords t) == 1#1)) = false
  simp only [cond0_4] at h; simp [h]
/-- idle at the others, -/
theorem idleAt0_10 (hO : Ok m) (t : Fin (cfgM m hO).N) (h : ¬cond0_4 (grid0.coords t)) : (cfgM m hO).idle 10 (grid0.coords t) = true := by
  show (!(k0_cond5 (grid0.coords t) == 1#1)) = true
  simp only [cond0_4] at h; simp [h]
/-- and not written back there. -/
theorem noFlush0_10 (hO : Ok m) (t : Fin (cfgM m hO).N) (h : ¬t.val % 9 = 8) : ((cfgM m hO).win 10).flush t = false :=
  Bool.eq_false_iff.mpr fun e => h ((flush0_10 (adm m hO) t).mp e)
/-- Output 11 is live at the last point of a batch, -/
theorem liveAt0_11 (hO : Ok m) (t : Fin (cfgM m hO).N) (h : cond0_4 (grid0.coords t)) : (cfgM m hO).idle 11 (grid0.coords t) = false := by
  show (!(k0_cond5 (grid0.coords t) == 1#1)) = false
  simp only [cond0_4] at h; simp [h]
/-- idle at the others, -/
theorem idleAt0_11 (hO : Ok m) (t : Fin (cfgM m hO).N) (h : ¬cond0_4 (grid0.coords t)) : (cfgM m hO).idle 11 (grid0.coords t) = true := by
  show (!(k0_cond5 (grid0.coords t) == 1#1)) = true
  simp only [cond0_4] at h; simp [h]
/-- and not written back there. -/
theorem noFlush0_11 (hO : Ok m) (t : Fin (cfgM m hO).N) (h : ¬t.val % 9 = 8) : ((cfgM m hO).win 11).flush t = false :=
  Bool.eq_false_iff.mpr fun e => h ((flush0_11 (adm m hO) t).mp e)

/-! ## What the points leave -/

/-- The length of the batch of point `t`. -/
abbrev wd (hO : Ok m) (t : Fin (cfgM m hO).N) : BitVec 32 := wordAt (tbl m) (grid0.coords t)

/-- The first grid point. -/
abbrev t0 (hO : Ok m) : Fin (cfgM m hO).N := ⟨0, Nat.lt_of_lt_of_eq (by decide) (show (cfgM m hO).N = 180 from N_0).symm⟩

/-- The transposed scales: the second scratch after the first point. -/
def hstC (hO : Ok m) (c : Dev nD) : Vec F S1152x128 .f32 := hstVal (iblk m hO c 0 (t0 m hO))

open Classical in
/-- The block output after point `t`. -/
def zmAt (hO : Ok m) (c : Dev nD) (t : Fin (cfgM m hO).N) : Vec F S1x128x1536 .f32 :=
  if cond0_2 (grid0.coords t) (wd m hO t) then k0_pay7 (F := F) else zmVal (grid0.coords t) (wd m hO t) (hstC m hO c) (iblk m hO c 1 t) (iblk m hO c 2 t) (iblk m hO c 3 t) (iblk m hO c 4 t) (iblk m hO c 5 t) (iblk m hO c 6 t) (iblk m hO c 7 t)

open Classical in
/-- The running sums after point `t`, from those before it. -/
def accStep (hO : Ok m) (c : Dev nD) (t : Fin (cfgM m hO).N) (a : Vec F S8x1536 .f32) : Vec F S8x1536 .f32 :=
  if cond0_2 (grid0.coords t) (wd m hO t) then a else accVal (grid0.coords t) (wd m hO t) (hstC m hO c) (iblk m hO c 1 t) (iblk m hO c 2 t) (iblk m hO c 3 t) (iblk m hO c 4 t) (iblk m hO c 5 t) (iblk m hO c 6 t) (iblk m hO c 7 t) a

/-- The running sums after point `n`: cleared at the first point of a batch. -/
def accAt (hO : Ok m) (c : Dev nD) : (n : ℕ) → n < (cfgM m hO).N → Vec F S8x1536 .f32
  | 0, h => accStep m hO c ⟨0, h⟩ (k0_pay6 (F := F))
  | n + 1, h => accStep m hO c ⟨n + 1, h⟩ (if (n + 1) % 9 = 0 then k0_pay6 (F := F) else accAt hO c n (Nat.lt_of_succ_lt h))

theorem accAt_first (hO : Ok m) (c : Dev nD) (t : Fin (cfgM m hO).N) (h : t.val % 9 = 0) : accAt m hO c t.val t.isLt = accStep m hO c t (k0_pay6 (F := F)) := by
  obtain ⟨n, hn⟩ := t
  cases n with
  | zero => rfl
  | succ n => exact congrArg (accStep m hO c ⟨n + 1, hn⟩) (if_pos h)

theorem accAt_next (hO : Ok m) (c : Dev nD) (t : Fin (cfgM m hO).N) (h : ¬t.val % 9 = 0) :
    accAt m hO c t.val t.isLt = accStep m hO c t (accAt m hO c (t.val - 1) (Nat.lt_of_le_of_lt (Nat.sub_le _ _) t.isLt)) := by
  obtain ⟨n, hn⟩ := t
  cases n with
  | zero => exact absurd rfl h
  | succ n => exact congrArg (accStep m hO c ⟨n + 1, hn⟩) (if_neg h)

theorem zmAt_active (hO : Ok m) (c : Dev nD) (t : Fin (cfgM m hO).N) (h : ¬cond0_2 (grid0.coords t) (wd m hO t)) :
    zmAt m hO c t = zmVal (grid0.coords t) (wd m hO t) (hstC m hO c) (iblk m hO c 1 t) (iblk m hO c 2 t) (iblk m hO c 3 t) (iblk m hO c 4 t) (iblk m hO c 5 t) (iblk m hO c 6 t) (iblk m hO c 7 t) := if_neg h
theorem zmAt_inactive (hO : Ok m) (c : Dev nD) (t : Fin (cfgM m hO).N) (h : cond0_2 (grid0.coords t) (wd m hO t)) :
    zmAt m hO c t = k0_pay7 (F := F) := if_pos h
theorem accStep_active (hO : Ok m) (c : Dev nD) (t : Fin (cfgM m hO).N) (h : ¬cond0_2 (grid0.coords t) (wd m hO t)) (a : Vec F S8x1536 .f32) :
    accStep m hO c t a = accVal (grid0.coords t) (wd m hO t) (hstC m hO c) (iblk m hO c 1 t) (iblk m hO c 2 t) (iblk m hO c 3 t) (iblk m hO c 4 t) (iblk m hO c 5 t) (iblk m hO c 6 t) (iblk m hO c 7 t) a := if_neg h
theorem accStep_inactive (hO : Ok m) (c : Dev nD) (t : Fin (cfgM m hO).N) (h : cond0_2 (grid0.coords t) (wd m hO t)) (a : Vec F S8x1536 .f32) :
    accStep m hO c t a = a := if_pos h

/-- The region invariant before position `n`: before the first point every scratch at anything; afterwards the running sums and the
    transposed scales as the points left them. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accAt m hO c n hn) ∗ owns (c : Thread nD τ) scM0_1 fullShare (hstC m hO c)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (accAt m hO c n hn) ∗ owns (c : Thread nD τ) scM0_1 fullShare (hstC m hO c)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (accAt m hO c (n - 1) (by omega)) ∗ owns (c : Thread nD τ) scM0_1 fullShare (hstC m hO c)) ∗ (∃ r, prngReg c r)) ∗ Pipeline.ΦT pre0 (tbl m) c) := by
  cases n with
  | zero => exact absurd rfl hz
  | succ n => rfl

/-- The proof data of the pipeline on core `c`: the arrays as the region finds them; after point `t` each input's buffer at its block and the
    outputs at the values above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => zmAt m hO c t
    | ⟨9, _⟩ => k0_pay23 (wd m hO t) (accAt m hO c t.val t.isLt)
    | ⟨10, _⟩ => k0_pay24 (F := F) (wd m hO t) (accAt m hO c t.val t.isLt)
    | ⟨11, _⟩ => k0_pay11 (k0_pay25 (wd m hO t) (accAt m hO c t.val t.isLt))
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = zmAt m hO c t := by dsimp only [dats]; try rfl
theorem after0_9 (hO : Ok m) (c : Dev nD) (t : Fin (cfgM m hO).N) : (dats m hO 0 c).after 9 t = k0_pay23 (wd m hO t) (accAt m hO c t.val t.isLt) := by dsimp only [dats]; try rfl
theorem after0_10 (hO : Ok m) (c : Dev nD) (t : Fin (cfgM m hO).N) : (dats m hO 0 c).after 10 t = k0_pay24 (F := F) (wd m hO t) (accAt m hO c t.val t.isLt) := by dsimp only [dats]; try rfl
theorem after0_11 (hO : Ok m) (c : Dev nD) (t : Fin (cfgM m hO).N) : (dats m hO 0 c).after 11 t = k0_pay11 (k0_pay25 (wd m hO t) (accAt m hO c t.val t.isLt)) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body's obligation at a point: what it is called with and what it returns -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

end Cert.KernelIdeal.Pool

end
-- ==== Proof.KernelIdeal.RunA.lean ====
/- The first grid point: the scales are transposed, the sums cleared, the block computed. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first grid point: the scales are transposed, the sums cleared, the block computed. -/
theorem run_A (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : cond0_0 i) (hc1 : cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ (∃ d, owns (c : Thread nD τ) arg15 fullShare d)
            ∗ (∃ d, owns (c : Thread nD τ) arg16 fullShare d)
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) (hstVal x0) x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) (hstVal x0) x1 x2 x3 x4 x5 x6 x7 (k0_pay6 (F := F)))
            ∗ owns (c : Thread nD τ) arg16 fullShare (hstVal x0)
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) (hstVal x0) x1 x2 x3 x4 x5 x6 x7 _ _ _ _ _ _ _ _ (ld_rows i arg16 _ (hstVal x0) (read_hst arg16.view _ arg3 harg3 x0)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) (hstVal x0) x1 x2 x3 x4 x5 x6 x7 (k0_pay6 (F := F)) _ _ _ _ _ _ _ _ _ (ld_rows i arg16 _ (hstVal x0) (read_hst arg16.view _ arg3 harg3 x0)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (View.readCov_full arg15.view _ _ _ _))
  isplitl [H13]
  · iexists _; isplitr; swap; · iexact H13
    ipureintro
    exact read_hst arg16.view _ arg3 harg3 x0
  iexact HT

end Cert.KernelIdeal.Pool

end
-- ==== Proof.KernelIdeal.SoundA.lean ====
/- The body obligation at the points of one case. The first grid point: the scales are transposed, the sums cleared, the block computed. -/
module

public import proofs.«01_k».proof.Proof.KernelIdeal.Data
public import proofs.«01_k».proof.Proof.KernelIdeal.RunA

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (hO : Ok m) (c : Dev nD) (t : Fin (cfgM m hO).N) (h0 : t.val % 180 = 0) (h1 : t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val = 0 := by omega
  obtain rfl : t = t0 m hO := Fin.ext hz
  rw [PhiS_castSucc m hO c _, PhiS_zero m hO c _ _ hz, PhiT0_eq, PhiA0_eq]
  rw [accAt_first m hO c (t0 m hO) h1, accStep_active m hO c (t0 m hO) h2, zmAt_active m hO c (t0 m hO) h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords (t0 m hO)) _ _ _ _ _ _ _ _ _ _ _ _ _ _ _ _ _ _ _ _ _ _ _ _ _ _ _ _ (tbl m) ((hcond0_0 (t0 m hO)).mpr h0) ((hcond0_1 (t0 m hO)).mpr h1) h2 ((cond0_3_iff _ _).mpr h2) (fun h => h4 ((hcond0_4 (t0 m hO)).mp h)) (iblk m hO c 0 (t0 m hO)) (iblk m hO c 1 (t0 m hO)) (iblk m hO c 2 (t0 m hO)) (iblk m hO c 3 (t0 m hO)) (iblk m hO c 4 (t0 m hO)) (iblk m hO c 5 (t0 m hO)) (iblk m hO c 6 (t0 m hO)) (iblk m hO c 7 (t0 m hO)) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.KernelIdeal.Pool

end
-- ==== Proof.KernelIdeal.RunB.lean ====
/- The first point of a later batch: the sums cleared, the block computed. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point of a later batch: the sums cleared, the block computed. -/
theorem run_B (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ (∃ d, owns (c : Thread nD τ) arg15 fullShare d)
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) xs1 x1 x2 x3 x4 x5 x6 x7 (k0_pay6 (F := F)))
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) xs1 x1 x2 x3 x4 x5 x6 x7 (k0_pay6 (F := F)) _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (View.readCov_full arg15.view _ _ _ _))
  isplitl [H13]
  · iexists _; isplitr; · ipureintro; exact harg16.read_unread _
    iexact H13
  iexact HT

end Cert.KernelIdeal.Pool

end
-- ==== Proof.KernelIdeal.SoundB.lean ====
/- The body obligation at the points of one case. The first point of a later batch: the sums cleared, the block computed. -/
module

public import proofs.«01_k».proof.Proof.KernelIdeal.Data
public import proofs.«01_k».proof.Proof.KernelIdeal.RunB

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (hO : Ok m) (c : Dev nD) (t : Fin (cfgM m hO).N) (h0 : ¬t.val % 180 = 0) (h1 : t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_first m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ _ _ (tbl m) (fun h => h0 ((hcond0_0 t).mp h)) ((hcond0_1 t).mpr h1) h2 ((cond0_3_iff _ _).mpr h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexists _; iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.KernelIdeal.Pool

end
-- ==== Proof.KernelIdeal.RunC.lean ====
/- A middle point whose block is active. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point whose block is active. -/
theorem run_C (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : ¬cond0_2 i (wordAt xt i)) (hc3 : cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare xi9
            ∗ owns (c : Thread nD τ) arg13 fullShare xi10
            ∗ owns (c : Thread nD τ) arg14 fullShare xi11
            ∗ owns (c : Thread nD τ) arg15 fullShare (accVal i (wordAt xt i) xs1 x1 x2 x3 x4 x5 x6 x7 xs0)
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro
    exact (View.read_writes_full _ _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))
  isplitl [H13]
  · iexists _; isplitr; · ipureintro; exact harg16.read_unread _
    iexact H13
  iexact HT

end Cert.KernelIdeal.Pool

end
-- ==== Proof.KernelIdeal.SoundC.lean ====
/- The body obligation at the points of one case. A middle point whose block is active. -/
module

public import proofs.«01_k».proof.Proof.KernelIdeal.Data
public import proofs.«01_k».proof.Proof.KernelIdeal.RunC

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (hO : Ok m) (c : Dev nD) (t : Fin (cfgM m hO).N) (h0 : ¬t.val % 180 = 0) (h1 : ¬t.val % 9 = 0) (h2 : ¬cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_next m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ _ _ (tbl m) (fun h => h0 ((hcond0_0 t).mp h)) (fun h => h1 ((hcond0_1 t).mp h)) h2 ((cond0_3_iff _ _).mpr h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.KernelIdeal.Pool

end
-- ==== Proof.KernelIdeal.RunD.lean ====
/- A middle point past the batch's length: a block of zeros. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point past the batch's length: a block of zeros. -/
theorem run_D (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : cond0_2 i (wordAt xt i)) (hc3 : ¬cond0_3 i (wordAt xt i)) (hc4 : ¬cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (xi9 : Vec F S1x1x1536 .f32) (xi10 : Vec F S1x1x1536 .i8) (xi11 : Vec F S1x1x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (k0_pay7 (F := F))
            ∗ owns (c : Thread nD τ) arg12 fullShare xi9
            ∗ owns (c : Thread nD τ) arg13 fullShare xi10
            ∗ owns (c : Thread nD τ) arg14 fullShare xi11
            ∗ owns (c : Thread nD τ) arg15 fullShare xs0
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10; obtain rfl := harg14.eq_unread hf11; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _)
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  iexact HT

end Cert.KernelIdeal.Pool

end
-- ==== Proof.KernelIdeal.SoundD.lean ====
/- The body obligation at the points of one case. A middle point past the batch's length: a block of zeros. -/
module

public import proofs.«01_k».proof.Proof.KernelIdeal.Data
public import proofs.«01_k».proof.Proof.KernelIdeal.RunD

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_D (hO : Ok m) (c : Dev nD) (t : Fin (cfgM m hO).N) (h0 : ¬t.val % 180 = 0) (h1 : ¬t.val % 9 = 0) (h2 : cond0_2 (grid0.coords t) (wd m hO t)) (h4 : ¬t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [Dat.leavesExact_idle (dats m hO 0 c) 9 t (idleAt0_9 m hO t (fun h => h4 ((hcond0_4 t).mp h))) (noFlush0_9 m hO t h4)]
  rw [Dat.leavesExact_idle (dats m hO 0 c) 10 t (idleAt0_10 m hO t (fun h => h4 ((hcond0_4 t).mp h))) (noFlush0_10 m hO t h4)]
  rw [Dat.leavesExact_idle (dats m hO 0 c) 11 t (idleAt0_11 m hO t (fun h => h4 ((hcond0_4 t).mp h))) (noFlush0_11 m hO t h4)]
  have hz : t.val ≠ 0 := by omega
  rw [PhiS_castSucc m hO c t, PhiS_pos m hO c _ _ hz, PhiT0_eq]
  rw [accAt_next m hO c t h1, accStep_inactive m hO c t h2, zmAt_inactive m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) _ _ _ _ _ _ _ _ _ _ _ _ _ _ _ _ _ _ _ _ _ _ _ _ _ _ _ _ (tbl m) (fun h => h0 ((hcond0_0 t).mp h)) (fun h => h1 ((hcond0_1 t).mp h)) h2 (fun h => (cond0_3_iff _ _).mp h h2) (fun h => h4 ((hcond0_4 t).mp h)) (iblk m hO c 0 t) (iblk m hO c 1 t) (iblk m hO c 2 t) (iblk m hO c 3 t) (iblk m hO c 4 t) (iblk m hO c 5 t) (iblk m hO c 6 t) (iblk m hO c 7 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.KernelIdeal.Pool

end
-- ==== Proof.KernelIdeal.RunE.lean ====
/- The last point of a batch, its block active: the block, and the pooled row and its codes. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point of a batch, its block active: the block, and the pooled row and its codes. -/
theorem run_E (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : ¬cond0_2 i (wordAt xt i)) (hc3 : cond0_3 i (wordAt xt i)) (hc4 : cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (zmVal i (wordAt xt i) xs1 x1 x2 x3 x4 x5 x6 x7)
            ∗ owns (c : Thread nD τ) arg12 fullShare (k0_pay23 (wordAt xt i) (accVal i (wordAt xt i) xs1 x1 x2 x3 x4 x5 x6 x7 xs0))
            ∗ owns (c : Thread nD τ) arg13 fullShare (k0_pay24 (F := F) (wordAt xt i) (accVal i (wordAt xt i) xs1 x1 x2 x3 x4 x5 x6 x7 xs0))
            ∗ owns (c : Thread nD τ) arg14 fullShare (k0_pay11 (k0_pay25 (wordAt xt i) (accVal i (wordAt xt i) xs1 x1 x2 x3 x4 x5 x6 x7 xs0)))
            ∗ owns (c : Thread nD τ) arg15 fullShare (accVal i (wordAt xt i) xs1 x1 x2 x3 x4 x5 x6 x7 xs0)
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _).trans (close_zm i (wordAt xt i) xs1 x1 x2 x3 x4 x5 x6 x7 _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _))
  isplitl [H9]
  · iexists _; isplitr; swap; · iexact H9
    ipureintro
    exact (View.read_writes_full _ _ _ _ _).trans (congrArg (k0_pay23 (wordAt xt i)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H10]
  · iexists _; isplitr; swap; · iexact H10
    ipureintro
    exact (View.read_writes_full _ _ _ _ _).trans (congrArg (k0_pay24 (F := F) (wordAt xt i)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H11]
  · iexists _; isplitr; swap; · iexact H11
    ipureintro
    exact (View.read_writes_full _ _ _ _ _).trans (congrArg (fun a => k0_pay11 (k0_pay25 (wordAt xt i) a)) ((View.readCov_full arg15.view _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))))
  isplitl [H12]
  · iexists _; isplitr; swap; · iexact H12
    ipureintro
    exact (View.read_writes_full _ _ _ _ _).trans (close_acc i (wordAt xt i) xs1 x1 x2 x3 x4 x5 x6 x7 xs0 _ _ _ _ _ _ _ _ _ (ld_rows i arg16 _ xs1 (harg16.read_unread xs1)) (ld_whole arg4 harg4 x1 _) (ld_whole arg5 harg5 x2 _) (ld_whole arg6 harg6 x3 _) (ld_whole arg7 harg7 x4 _) (ld_whole arg8 harg8 x5 _) (ld_whole arg9 harg9 x6 _) (ld_whole arg10 harg10 x7 _) (ld_whole arg15 harg15 xs0 _))
  isplitl [H13]
  · iexists _; isplitr; · ipureintro; exact harg16.read_unread _
    iexact H13
  iexact HT

end Cert.KernelIdeal.Pool

end
-- ==== Proof.KernelIdeal.SoundE.lean ====
/- The body obligation at the points of one case. The last point of a batch, its block active: the block, and the pooled row and its codes. -/
module

public import proofs.«01_k».proof.Proof.KernelIdeal.Data
public import proofs.«01_k».proof.Proof.KernelIdeal.RunE

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_E (hO : Ok m) (c : Dev nD) (t : Fin (cfgM m hO).N) (h0 : ¬t.val % 180 = 0) (h1 : ¬t.val % 9 = 0) (h2 : ¬cond0_2 (grid0.coords t) (wd m hO t)) (h4 : t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t ((hcond0_4 t).mpr h4)]; try rfl, after0_9]
  rw [show (dats m hO 0 c).leavesExact 10 t = owns (c : Thread nD τ) (ms0_10 m hO t) fullShare ((dats m hO 0 c).after 10 t) from by
    unfold Dat.leavesExact; rw [liveAt0_10 m hO t ((hcond0_4 t).mpr h4)]; try rfl, after0_10]
  rw [show (dats m hO 0 c).leavesExact 11 t = owns (c : Thread nD τ) (ms0_11 m hO t) fullShare ((dats m hO 0 c).after 11 t) from by
    unfold Dat.leavesExact; rw [liveAt0_11 m hO t ((hcond0_4 t).mpr h4)]; try rfl, after0_11]
  have hz : t.val ≠ 0 := by omega
  rw [PhiS_castSucc m hO c t, PhiS_pos m hO c _ _ hz, PhiT0_eq]
  rw [accAt_next m hO c t h1, accStep_active m hO c t h2, zmAt_active m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_E c (grid0.coords t) _ _ _ _ _ _ _ _ _ _ _ _ _ _ _ _ _ _ _ _ _ _ _ _ _ _ _ _ (tbl m) (fun h => h0 ((hcond0_0 t).mp h)) (fun h => h1 ((hcond0_1 t).mp h)) h2 ((cond0_3_iff _ _).mpr h2) ((hcond0_4 t).mpr h4) (iblk m hO c 0 t) (iblk m hO c 1 t) (iblk m hO c 2 t) (iblk m hO c 3 t) (iblk m hO c 4 t) (iblk m hO c 5 t) (iblk m hO c 6 t) (iblk m hO c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Pool

end
-- ==== Proof.KernelIdeal.RunG.lean ====
/- The last point of a batch past its length: a block of zeros, and the pooled row and its codes. -/
module

public import proofs.«01_k».proof.Proof.KernelIdeal.Vals

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point of a batch past its length: a block of zeros, and the pooled row and its codes. -/
theorem run_G (c : Dev nD) (i : grid0.Coords) (arg3 : Memref sig .tc .vmem S20x1152 .f32) (harg3 : arg3.IsWhole) (arg4 : Memref sig .tc .vmem S1x128x1536 .bf16) (harg4 : arg4.IsWhole) (arg5 : Memref sig .tc .vmem S1x128x8960 .fp8e4m3) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x128x1536 .f32) (harg11 : arg11.IsWhole) (arg12 : Memref sig .tc .vmem S1x1x1536 .f32) (harg12 : arg12.IsWhole) (arg13 : Memref sig .tc .vmem S1x1x1536 .i8) (harg13 : arg13.IsWhole) (arg14 : Memref sig .tc .vmem S1x1x128 .f32) (harg14 : arg14.IsWhole) (arg15 : Memref sig .tc .vmem S8x1536 .f32) (harg15 : arg15.IsWhole) (arg16 : Memref sig .tc .vmem S1152x128 .f32) (harg16 : arg16.IsWhole) (xt : pre0.Contents (Elt F)) (hc0 : ¬cond0_0 i) (hc1 : ¬cond0_1 i) (hc2 : cond0_2 i (wordAt xt i)) (hc3 : ¬cond0_3 i (wordAt xt i)) (hc4 : cond0_4 i)
    (x0 : Vec F S20x1152 .f32) (x1 : Vec F S1x128x1536 .bf16) (x2 : Vec F S1x128x8960 .fp8e4m3) (x3 : Vec F S8960x1536 .fp8e4m3) (x4 : Vec F S1x1536 .f32) (x5 : Vec F S1x1536 .f32) (x6 : Vec F S1x1536 .f32) (x7 : Vec F S1x1536 .f32) (xs0 : Vec F S8x1536 .f32) (xs1 : Vec F S1152x128 .f32) (E : Set ℕ) (K : PUnit → sProp 𝕄) :
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ tbPt0 c tbM0_0 (xt 0)
            ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare (k0_pay7 (F := F))
            ∗ owns (c : Thread nD τ) arg12 fullShare (k0_pay23 (wordAt xt i) xs0)
            ∗ owns (c : Thread nD τ) arg13 fullShare (k0_pay24 (F := F) (wordAt xt i) xs0)
            ∗ owns (c : Thread nD τ) arg14 fullShare (k0_pay11 (k0_pay25 (wordAt xt i) xs0))
            ∗ owns (c : Thread nD τ) arg15 fullShare xs0
            ∗ owns (c : Thread nD τ) arg16 fullShare xs1
            ∗ tbPt0 c tbM0_0 (xt 0)) -∗ K ⟨⟩))
          ⊢ wp frame (wpE (defs₀ (F := F)) Variants.none c none) E (cc0_ffn_down_ln_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_down_ln_pool_eq_skeleton]; unfold cc0_ffn_down_ln_pool_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg15.eq_unread hf12; obtain rfl := harg16.eq_unread hf13
  sl_exec (disch := first | sl_exact hc0 | exact hc0 | sl_exact hc1 | exact hc1 | sl_exact hc2 | exact hc2 | sl_exact hc3 | exact hc3 | sl_exact hc4 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    exact (View.read_writes_full _ _ _ _ _)
  isplitl [H9]
  · iexists _; isplitr; swap; · iexact H9
    ipureintro
    exact (View.read_writes_full _ _ _ _ _).trans (congrArg (k0_pay23 (wordAt xt i)) (ld_whole arg15 harg15 xs0 _))
  isplitl [H10]
  · iexists _; isplitr; swap; · iexact H10
    ipureintro
    exact (View.read_writes_full _ _ _ _ _).trans (congrArg (k0_pay24 (F := F) (wordAt xt i)) (ld_whole arg15 harg15 xs0 _))
  isplitl [H11]
  · iexists _; isplitr; swap; · iexact H11
    ipureintro
    exact (View.read_writes_full _ _ _ _ _).trans (congrArg (fun a => k0_pay11 (k0_pay25 (wordAt xt i) a)) (ld_whole arg15 harg15 xs0 _))
  isplitl [H12]
  · iexists _; isplitr; · ipureintro; exact harg15.read_unread _
    iexact H12
  isplitl [H13]
  · iexists _; isplitr; · ipureintro; exact harg16.read_unread _
    iexact H13
  iexact HT

end Cert.KernelIdeal.Pool

end
-- ==== Proof.KernelIdeal.SoundG.lean ====
/- The body obligation at the points of one case. The last point of a batch past its length: a block of zeros, and the pooled row and its codes. -/
module

public import proofs.«01_k».proof.Proof.KernelIdeal.Data
public import proofs.«01_k».proof.Proof.KernelIdeal.RunG

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_G (hO : Ok m) (c : Dev nD) (t : Fin (cfgM m hO).N) (h0 : ¬t.val % 180 = 0) (h1 : ¬t.val % 9 = 0) (h2 : cond0_2 (grid0.coords t) (wd m hO t)) (h4 : t.val % 9 = 8) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 180 := lt_of_lt_of_eq t.isLt (show (cfgM m hO).N = 180 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t ((hcond0_4 t).mpr h4)]; try rfl, after0_9]
  rw [show (dats m hO 0 c).leavesExact 10 t = owns (c : Thread nD τ) (ms0_10 m hO t) fullShare ((dats m hO 0 c).after 10 t) from by
    unfold Dat.leavesExact; rw [liveAt0_10 m hO t ((hcond0_4 t).mpr h4)]; try rfl, after0_10]
  rw [show (dats m hO 0 c).leavesExact 11 t = owns (c : Thread nD τ) (ms0_11 m hO t) fullShare ((dats m hO 0 c).after 11 t) from by
    unfold Dat.leavesExact; rw [liveAt0_11 m hO t ((hcond0_4 t).mpr h4)]; try rfl, after0_11]
  have hz : t.val ≠ 0 := by omega
  rw [PhiS_castSucc m hO c t, PhiS_pos m hO c _ _ hz, PhiT0_eq]
  rw [accAt_next m hO c t h1, accStep_inactive m hO c t h2, zmAt_inactive m hO c t h2]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_G c (grid0.coords t) _ _ _ _ _ _ _ _ _ _ _ _ _ _ _ _ _ _ _ _ _ _ _ _ _ _ _ _ (tbl m) (fun h => h0 ((hcond0_0 t).mp h)) (fun h => h1 ((hcond0_1 t).mp h)) h2 (fun h => (cond0_3_iff _ _).mp h h2) ((hcond0_4 t).mpr h4) (iblk m hO c 0 t) (iblk m hO c 1 t) (iblk m hO c 2 t) (iblk m hO c 3 t) (iblk m hO c 4 t) (iblk m hO c 5 t) (iblk m hO c 6 t) (iblk m hO c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HT0]; · iexact HT0
  iintro ⟨H0, H1, H2, H3, H4, H5, H6, H7, H8, H9, H10, H11, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Pool

end
-- ==== Proof.KernelIdeal.Frame.lean ====
/- The run of @main around the region, and the frame. -/
module

public import proofs.«01_k».proof.Proof.KernelIdeal.SoundA
public import proofs.«01_k».proof.Proof.KernelIdeal.SoundB
public import proofs.«01_k».proof.Proof.KernelIdeal.SoundC
public import proofs.«01_k».proof.Proof.KernelIdeal.SoundD
public import proofs.«01_k».proof.Proof.KernelIdeal.SoundE
public import proofs.«01_k».proof.Proof.KernelIdeal.SoundG
public import Idealize.ShloMosaic.Lib.Claim

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every batch's first block is active: its length is positive. -/
def Act : Prop := ∀ t : Fin grid0.N, t.val % 9 = 0 → ¬cond0_2 (grid0.coords t) (wordAt (tbl m) (grid0.coords t))

/-- The body at any point: the closed forms and the word say which case the point is in. -/
theorem sound_body (hO : Ok m) (hP : Act m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 180 = 0
  · exact sound_A m hO c t h0 (by omega) (hP t (by omega)) (by omega)
  by_cases h1 : t.val % 9 = 0
  · exact sound_B m hO c t h0 h1 (hP t h1) (by omega)
  by_cases h4 : t.val % 9 = 8
  · by_cases h2 : cond0_2 (grid0.coords t) (wd m hO t)
    · exact sound_G m hO c t h0 h1 h2 h4
    · exact sound_E m hO c t h0 h1 h2 h4
  · by_cases h2 : cond0_2 (grid0.coords t) (wd m hO t)
    · exact sound_D m hO c t h0 h1 h2 h4
    · exact sound_C m hO c t h0 h1 h2 h4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hP : Act m) (c : Dev nD) : BodyObligation (dats (F := F) m hO 0 c) (defs₀ (F := F)) Variants.none () Set.univ := fun t => by
  rw [bigSep_W0, bigSep_W0, defs₀_row m hO]
  exact triple_restated (sound_body m hO hP c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 180 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hP : Act m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO hP c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hP : Act m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO hP)

/-- `frame` without the counters: the argument arrays end unchanged. -/
theorem unchanged (hO : Ok m) (hP : Act m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO hP)

/-- THE FRAME, from the tables' side condition and the activity of every batch's first point. -/
theorem frame (hO : Ok m) (hP : Act m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hP) ((θ_run defs _ _).mono (fun _ h => h.2) (run_main_quiescent m ρ hO hP))

end Cert.KernelIdeal.Pool

end
-- ==== Proof.KernelIdeal.Pre.lean ====
/- What the precondition gives: positive row counts, hence windows inside their arrays and a first block that is not skipped. -/
module

public import proofs.«01_k».proof.Proof.KernelIdeal.Frame
public import proofs.«01_k».proof.Proof.Words
public import proofs.«01_k».proof.Defs
public import Idealize.ShloMosaic.Lib.ReduceAll
public import Idealize.ShloMosaic.Lib.StableHlo.Predicate
public import Idealize.ShloMosaic.Lib.ValueIdxCore

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row count a point's word is: the entry of the lengths array at the point's first coordinate. -/
theorem wordAt_eq (m : (ℓ : Loc nD τ sig) → Buf (Elt F) ℓ) (i : grid0.Coords) :
    wordAt (tbl m) i = m (((0 : Dev nD).tc : Thread nD τ).loc main_arg8) (ValueIdx.ix1 (i 0)) := by
  have h : wordAt (tbl m) i = V m 0 main_arg8 (ValueIdx.ix1 (i 0)) := by
    refine congrArg (V m 0 main_arg8) (funext fun a : Fin 1 => Fin.ext ?_)
    have h0 : (i 0).val < 20 := (i 0).isLt
    match a with
    | 0 =>
      show (BitVec.ofNat 32 (i 0).val).toNat + 0 * 1 = (i 0).val
      rw [BitVec.toNat_ofNat]; omega
  rw [h, V_main_arg8 m 0]

/-- Every row count the table holds is positive. -/
def Pos (m : (ℓ : Loc nD τ sig) → Buf (Elt F) ℓ) : Prop := ∀ i : grid0.Coords, ∃ n : ℕ, 1 ≤ n ∧ n < 2 ^ 31 ∧ wordAt (tbl m) i = BitVec.ofNat 32 n

/-- A word that is at least one as a signed number is a natural between one and 2³¹. -/
theorem pos_word (w : BitVec 32) (h : IntOp.cmpi .sge w 1#32 = 1#1) : ∃ n : ℕ, 1 ≤ n ∧ n < 2 ^ 31 ∧ w = BitVec.ofNat 32 n := by
  have h' : (1 : Int) ≤ w.toInt := by
    have h0 : BitVec.ofBool (BitVec.sle 1#32 w) = 1#1 := h
    rw [StableHlo.Predicate.ofBool_eq_one_iff] at h0
    rw [BitVec.sle_iff_toInt_le] at h0
    exact h0
  have hw := w.isLt
  rw [BitVec.toInt_eq_toNat_cond] at h'
  refine ⟨w.toNat, ?_, ?_, BitVec.eq_of_toNat_eq (by rw [BitVec.toNat_ofNat, Nat.mod_eq_of_lt hw])⟩ <;> (split at h' <;> omega)

/-- The index map of the residual's window, spelt out. -/
theorem transform_1_eq (pf : pre0.Contents (Elt F)) (i : grid0.Coords) :
    cc0_transform_1 k0_off1_inb numel1_S1 pf i = ![(BitVec.ofNat 32 (i 0).val).toNat, (Words.blkOf (BitVec.ofNat 32 (i 1).val) (wordAt pf i)).toNat, 0] := rfl
/-- The index map of the codes' window, spelt out. -/
theorem transform_2_eq (pf : pre0.Contents (Elt F)) (i : grid0.Coords) :
    cc0_transform_2 k0_off1_inb numel1_S1 pf i = ![(BitVec.ofNat 32 (i 0).val).toNat, (Words.blkOf (BitVec.ofNat 32 (i 1).val) (wordAt pf i)).toNat, 0] := rfl

/-- The block row the two windows read at a point, as a number. -/
theorem blk_toNat {m : (ℓ : Loc nD τ sig) → Buf (Elt F) ℓ} (i : grid0.Coords) {n : ℕ} (h1 : 1 ≤ n) (h2 : n < 2 ^ 31) (h : wordAt (tbl m) i = BitVec.ofNat 32 n) :
    (Words.blkOf (BitVec.ofNat 32 (i 1).val) (wordAt (tbl m) i)).toNat = min (i 1).val ((n - 1) / 128) := by
  rw [h]; exact Words.blkOf_toNat h1 h2 (i 1).isLt

/-- The first coordinate as a word and back. -/
theorem c0_toNat (i : grid0.Coords) : (BitVec.ofNat 32 (i 0).val).toNat = (i 0).val := by
  have h : (i 0).val < 20 := (i 0).isLt
  rw [BitVec.toNat_ofNat]; omega

/-- With positive row counts the two prefetched windows read inside their arrays. -/
theorem ok_of_pos {m : (ℓ : Loc nD τ sig) → Buf (Elt F) ℓ} (hp : Pos m) : Ok m := by
  refine ⟨fun i => ?_, fun i => ?_⟩
  · obtain ⟨n, h1, h2, hn⟩ := hp i
    have hb : ∀ a, (cc0_transform_1 k0_off1_inb numel1_S1 (tbl m) i a + 1) * S1x128x1536.size a ≤ S20x1152x1536.size a := by
      have h0 : (i 0).val < 20 := (i 0).isLt
      have h9 : (i 1).val < 9 := (i 1).isLt
      rw [transform_1_eq, blk_toNat i h1 h2 hn, c0_toNat]
      intro a
      match a with
      | 0 => show ((i 0).val + 1) * 1 ≤ 20; omega
      | 1 => show (min (i 1).val ((n - 1) / 128) + 1) * 128 ≤ 1152; omega
      | 2 => show (0 + 1) * 1536 ≤ 1536; omega
    exact ⟨hb, .inr (Affine.block_words_dvd (of_decide_eq_true rfl) (by decide))⟩
  · obtain ⟨n, h1, h2, hn⟩ := hp i
    have hb : ∀ a, (cc0_transform_2 k0_off1_inb numel1_S1 (tbl m) i a + 1) * S1x128x8960.size a ≤ S20x1152x8960.size a := by
      have h0 : (i 0).val < 20 := (i 0).isLt
      have h9 : (i 1).val < 9 := (i 1).isLt
      rw [transform_2_eq, blk_toNat i h1 h2 hn, c0_toNat]
      intro a
      match a with
      | 0 => show ((i 0).val + 1) * 1 ≤ 20; omega
      | 1 => show (min (i 1).val ((n - 1) / 128) + 1) * 128 ≤ 1152; omega
      | 2 => show (0 + 1) * 8960 ≤ 8960; omega
    exact ⟨hb, .inr (Affine.block_words_dvd (of_decide_eq_true rfl) (by decide))⟩

/-- The skipped blocks, in numbers: those that start at or after the row count. -/
theorem skip_iff (i : grid0.Coords) {n : ℕ} (h2 : n < 2 ^ 31) : cond0_2 i (BitVec.ofNat 32 n) ↔ n ≤ (i 1).val * 128 := by
  have h9 : (i 1).val < 9 := (i 1).isLt
  have e : Scalar.muli (BitVec.ofNat 32 (i 1).val) 128#32 = BitVec.ofNat 32 ((i 1).val * 128) := by
    show BitVec.ofNat 32 (i 1).val * BitVec.ofNat 32 128 = _
    rw [← BitVec.ofNat_mul]
  show Scalar.cmpi .ne (Scalar.extui (Scalar.cmpi .sge (Scalar.muli (BitVec.ofNat 32 (i 1).val) 128#32) (BitVec.ofNat 32 n))) 0#32 = 1#1 ↔ _
  rw [e]
  by_cases h : n ≤ (i 1).val * 128
  · have hs : Scalar.cmpi .sge (BitVec.ofNat 32 ((i 1).val * 128)) (BitVec.ofNat 32 n) = 1#1 := by
      show BitVec.ofBool (BitVec.sle (BitVec.ofNat 32 n) (BitVec.ofNat 32 ((i 1).val * 128))) = 1#1
      exact (StableHlo.Predicate.sle_ofNat_iff _ _ h2 (by omega)).2 h
    rw [hs]
    exact ⟨fun _ => h, fun _ => by decide⟩
  · have hs : Scalar.cmpi .sge (BitVec.ofNat 32 ((i 1).val * 128)) (BitVec.ofNat 32 n) = 0#1 := by
      show BitVec.ofBool (BitVec.sle (BitVec.ofNat 32 n) (BitVec.ofNat 32 ((i 1).val * 128))) = 0#1
      cases hb : BitVec.sle (BitVec.ofNat 32 n) (BitVec.ofNat 32 ((i 1).val * 128)) with
      | false => rfl
      | true => exact absurd ((StableHlo.Predicate.sle_ofNat_iff _ _ h2 (by omega)).1 (by rw [hb]; rfl)) h
    rw [hs]
    exact ⟨fun hc => absurd hc (by decide), fun hc => absurd hc h⟩

/-- A point's first coordinate: the row of the batch. -/
theorem coord0 (t : Fin grid0.N) : ((grid0.coords t) 0).val = t.val / 9 := by
  have e : (grid0.coords t 0).val = t.val / 9 % 20 := Pipeline.Grid.coords_val t 0 (by decide) rfl
  have ht : t.val < 180 := Nat.lt_of_lt_of_eq t.isLt N_0
  rw [e]; omega
/-- A point's second coordinate: the block of rows. -/
theorem coord1 (t : Fin grid0.N) : ((grid0.coords t) 1).val = t.val % 9 := by
  have e : (grid0.coords t 1).val = t.val / 1 % 9 := Pipeline.Grid.coords_val t 1 (by decide) rfl
  rw [e]; omega

/-- With positive row counts a row's first block is not skipped. -/
theorem act_of_pos {m : (ℓ : Loc nD τ sig) → Buf (Elt F) ℓ} (hp : Pos m) : Act m := by
  intro t ht hc
  obtain ⟨n, h1, h2, hn⟩ := hp (grid0.coords t)
  rw [hn, skip_iff _ h2] at hc
  have h0 : ((grid0.coords t) 1).val = 0 := (coord1 t).trans ht
  omega

/-- The precondition gives positive row counts. -/
theorem pos_of_pre [Cert.Pre_positive.Facts] {m : (ℓ : Loc nD τ sig) → Buf (Elt Ideal) ℓ} (h : Pre_KernelIdeal m) : Pos m := by
  intro i
  refine pos_word _ ?_
  rw [wordAt_eq]
  have h0 := congrFun (h 0) (Shape.Idx.first Cert.Pre_positive.Facts.h_S_)
  simp only [Cert.Pre_positive.fn, constantI] at h0
  haveI : Subsingleton Cert.Pre_positive.S_.Idx := ⟨fun a b => funext fun x => x.elim0⟩
  exact Host.reduce_andi_all _ _ _ _ _ h0 _

end Cert.KernelIdeal.Pool

end
-- ==== Proof.Nums.lean ====
/- The plain mathematics both programs compute, on numbers: one row of the projection, its layer norm, and what follows the masked mean. -/
module

public import Idealize.ShloMosaic.Lib.Pointwise

@[expose] public section

noncomputable section

namespace Cert.Nums

open Idealize.ShloMosaic

/-- One row before the norm: the residual, the scaled product and the bias. -/
def rowY (x : Fin 1536 → EReal) (h : Fin 8960 → EReal) (w : Fin 8960 → Fin 1536 → EReal) (s : EReal) (ws b : Fin 1536 → EReal) (d : Fin 1536) : EReal :=
  x d + (∑ k, h k * w k d) * s * ws d + b d

/-- A row less its mean. -/
def cen (y : Fin 1536 → EReal) (d : Fin 1536) : EReal := y d - Ideal.div (∑ e, y e) (Ideal.ofBits .f32 1153433600#32)

/-- A layer-normed row. -/
def rowZ (y g b : Fin 1536 → EReal) (d : Fin 1536) : EReal :=
  cen y d * Ideal.rsqrt (Ideal.div (∑ e, cen y e * cen y e) (Ideal.ofBits .f32 1153433600#32) + Ideal.ofBits .f32 925353388#32) * g d + b d

/-- The mean of a column over the batch's rows. -/
def mean (z : Fin 1152 → EReal) (n : BitVec 32) : EReal := Ideal.div (∑ r, z r) (((n.toInt : ℝ) : EReal))

/-- The mean vector scaled to unit length. -/
def unitv (u : Fin 1536 → EReal) (d : Fin 1536) : EReal :=
  Ideal.div (u d) (max (Ideal.sqrt (∑ e, u e * u e)) (Ideal.ofBits .f32 730643660#32))

/-- The largest magnitude of the unit vector. -/
def top (u : Fin 1536 → EReal) : EReal :=
  Finset.fold max (Ideal.ofBits .f32 4286578688#32) (fun e => FloatOps.absf (F := Ideal) (φ := .f32) (unitv u e)) Finset.univ

/-- The scale of the eight-bit codes: one where the vector is zero. -/
def scale (u : Fin 1536 → EReal) : EReal := if top u = 0 then 1 else Ideal.div (top u) (Ideal.ofBits .f32 1123942400#32)

/-- One code: the unit vector over the scale, rounded to the nearest and kept between -127 and 127. -/
def code (u : Fin 1536 → EReal) (d : Fin 1536) : BitVec 8 :=
  FloatOps.fptosi (F := Ideal) (φ := .f32) 8 (min (Ideal.ofBits .f32 1123942400#32)
    (max (Ideal.ofBits .f32 3271426048#32) (Ideal.liftRound Ideal.roundHalfEven (Ideal.div (unitv u d) (scale u)))))

end Cert.Nums

end
-- ==== Proof.KernelIdeal.Pay.lean ====
/- The kernel's payloads, entry by entry, at exact arithmetic. -/
module

public import proofs.«01_k».proof.Proof.Gen.KernelIdeal.Skeleton
public import proofs.«01_k».proof.Proof.Nums
public import Idealize.ShloMosaic.Lib.Pointwise

@[expose] public section

set_option maxRecDepth 16384

noncomputable section

namespace Cert.KernelIdeal.Pool

open Idealize.ShloMosaic Cert.KernelIdeal Cert.KernelIdeal.Gen

/-- The scale a row of lanes selects at word `a`. -/
def lane (a : BitVec 32) (s : Vec Ideal S128x128 .f32) (r : Fin 128) : EReal :=
  ∑ l : Fin 128, Scalar.select (IntOp.cmpi .eq (BitVec.ofNat 32 l.val) a) (s (ix2 r l)) 0

/-- Row `r` of a block before the norm. -/
def blkY (a : BitVec 32) (h : Vec Ideal S1x128x8960 .fp8e4m3) (w : Vec Ideal S8960x1536 .fp8e4m3) (s : Vec Ideal S128x128 .f32) (x : Vec Ideal S1x128x1536 .bf16)
    (ws b : Vec Ideal S1x1536 .f32) (r : Fin 128) : Fin 1536 → EReal :=
  Nums.rowY (fun d => x (ix3 0 r d)) (fun k => h (ix3 0 r k)) (fun k d => w (ix2 k d)) (lane a s r) (fun d => ws (ix2 0 d)) (fun d => b (ix2 0 d))

theorem pay17_apply (a : BitVec 32) (h : Vec Ideal S1x128x8960 .fp8e4m3) (w : Vec Ideal S8960x1536 .fp8e4m3) (s : Vec Ideal S128x128 .f32) (x : Vec Ideal S1x128x1536 .bf16)
    (ws b : Vec Ideal S1x1536 .f32) (r : Fin 128) (d : Fin 1536) :
    k0_pay17 (F := Ideal) a h w s x ws b (ix2 r d) = Nums.cen (blkY a h w s x ws b r) d := by
  pointwise [k0_pay17]
  rfl

theorem pay18_apply (a : BitVec 32) (h : Vec Ideal S1x128x8960 .fp8e4m3) (w : Vec Ideal S8960x1536 .fp8e4m3) (s : Vec Ideal S128x128 .f32) (x : Vec Ideal S1x128x1536 .bf16)
    (ws b : Vec Ideal S1x1536 .f32) (r : Fin 128) :
    k0_pay18 (F := Ideal) a h w s x ws b (ix2 r 0) = ∑ e, Nums.cen (blkY a h w s x ws b r) e * Nums.cen (blkY a h w s x ws b r) e := by
  pointwise [k0_pay18]
  simp only [pay17_apply]

theorem pay19_apply (r : Fin 128) : k0_pay19 (F := Ideal) (ix2 r 0) = Ideal.ofBits .f32 1153433600#32 := by
  pointwise [k0_pay19]

/-- A block's masked, normed rows. -/
def blkZ (i : grid0.Coords) (n : BitVec 32) (y : Fin 128 → Fin 1536 → EReal) (g b : Vec Ideal S1x1536 .f32) (r : Fin 128) (d : Fin 1536) : EReal :=
  Scalar.select (IntOp.cmpi .slt (IntOp.addi (Scalar.muli (BitVec.ofNat 32 (i 1).val) 128#32) (BitVec.ofNat 32 r.val)) n)
    (Nums.rowZ (y r) (fun d => g (ix2 0 d)) (fun d => b (ix2 0 d)) d) 0

theorem pay8_apply (i : grid0.Coords) (n : BitVec 32) (a : BitVec 32) (h : Vec Ideal S1x128x8960 .fp8e4m3) (w : Vec Ideal S8960x1536 .fp8e4m3) (s : Vec Ideal S128x128 .f32) (x : Vec Ideal S1x128x1536 .bf16)
    (ws b g be : Vec Ideal S1x1536 .f32) (r : Fin 128) (d : Fin 1536) :
    k0_pay8 (F := Ideal) i n (k0_pay17 (F := Ideal) a h w s x ws b) (k0_pay18 (F := Ideal) a h w s x ws b) (k0_pay19 (F := Ideal)) g be (ix2 r d)
      = blkZ i n (blkY a h w s x ws b) g be r d := by
  pointwise [k0_pay8]
  rw [pay17_apply, pay18_apply, pay19_apply]
  rfl

theorem pay9_apply (i : grid0.Coords) (n : BitVec 32) (a : BitVec 32) (h : Vec Ideal S1x128x8960 .fp8e4m3) (w : Vec Ideal S8960x1536 .fp8e4m3) (s : Vec Ideal S128x128 .f32) (x : Vec Ideal S1x128x1536 .bf16)
    (ws b g be : Vec Ideal S1x1536 .f32) (r : Fin 128) (d : Fin 1536) :
    k0_pay9 (F := Ideal) i n (k0_pay17 (F := Ideal) a h w s x ws b) (k0_pay18 (F := Ideal) a h w s x ws b) (k0_pay19 (F := Ideal)) g be (ix3 0 r d)
      = blkZ i n (blkY a h w s x ws b) g be r d := by
  pointwise [k0_pay9]
  rw [pay8_apply]

theorem pay10_apply (i : grid0.Coords) (n : BitVec 32) (a : BitVec 32) (h : Vec Ideal S1x128x8960 .fp8e4m3) (w : Vec Ideal S8960x1536 .fp8e4m3) (s : Vec Ideal S128x128 .f32) (x : Vec Ideal S1x128x1536 .bf16)
    (ws b g be : Vec Ideal S1x1536 .f32) (acc : Vec Ideal S8x1536 .f32) (r : Fin 8) (d : Fin 1536) :
    k0_pay10 (F := Ideal) i n (k0_pay17 (F := Ideal) a h w s x ws b) (k0_pay18 (F := Ideal) a h w s x ws b) (k0_pay19 (F := Ideal)) g be acc (ix2 r d)
      = acc (ix2 r d) + ∑ q : Fin 16, blkZ i n (blkY a h w s x ws b) g be ⟨q.val * 8 + r.val, by omega⟩ d := by
  pointwise [k0_pay10]
  simp only [pay8_apply]

theorem pay6_apply (r : Fin 8) (d : Fin 1536) : k0_pay6 (F := Ideal) (ix2 r d) = 0 := by
  pointwise [k0_pay6]

theorem pay7_apply (r : Fin 128) (d : Fin 1536) : k0_pay7 (F := Ideal) (ix3 0 r d) = 0 := by
  pointwise [k0_pay7]

/-- The mean the last block of a batch computes from the running sums. -/
def accM (n : BitVec 32) (acc : Vec Ideal S8x1536 .f32) (d : Fin 1536) : EReal := Ideal.div (∑ q : Fin 8, acc (ix2 q d)) (((n.toInt : ℝ) : EReal))

theorem pay20_apply (n : BitVec 32) (acc : Vec Ideal S8x1536 .f32) (d : Fin 1536) : k0_pay20 (F := Ideal) n acc (ix2 0 d) = accM n acc d := by
  pointwise [k0_pay20]
  rfl

theorem pay21_apply (n : BitVec 32) (acc : Vec Ideal S8x1536 .f32) (d : Fin 1536) : k0_pay21 (F := Ideal) n acc (ix2 0 d) = Nums.unitv (accM n acc) d := by
  pointwise [k0_pay21]
  simp only [pay20_apply]
  rfl

theorem pay22_apply (n : BitVec 32) (acc : Vec Ideal S8x1536 .f32) : k0_pay22 (F := Ideal) n acc (ix2 0 0) = Nums.scale (accM n acc) := by
  pointwise [k0_pay22]
  simp only [pay21_apply]
  rfl

theorem pay23_apply (n : BitVec 32) (acc : Vec Ideal S8x1536 .f32) (d : Fin 1536) : k0_pay23 (F := Ideal) n acc (ix3 0 0 d) = accM n acc d := by
  pointwise [k0_pay23]
  rw [pay20_apply]

theorem pay24_apply (n : BitVec 32) (acc : Vec Ideal S8x1536 .f32) (d : Fin 1536) : k0_pay24 (F := Ideal) n acc (ix3 0 0 d) = Nums.code (accM n acc) d := by
  pointwise [k0_pay24]
  rw [pay21_apply, pay22_apply]
  rfl

theorem pay25_apply (n : BitVec 32) (acc : Vec Ideal S8x1536 .f32) (d : Fin 128) : k0_pay11 (F := Ideal) (k0_pay25 (F := Ideal) n acc) (ix3 0 0 d) = Nums.scale (accM n acc) := by
  pointwise [k0_pay11, k0_pay25]
  rw [pay22_apply]

end Cert.KernelIdeal.Pool

end
-- ==== Proof.KernelIdeal.Blocks.lean ====
/- The windows' blocks entry by entry: what each grid point reads of the nine arguments. -/
module

public import proofs.«01_k».proof.Proof.KernelIdeal.Pre
public import proofs.«01_k».proof.Proof.KernelIdeal.Pay
public import Idealize.ShloMosaic.Lib.Pointwise
public import Idealize.ShloMosaic.Lib.Pointwise.IndexBridge

@[expose] public section

set_option maxRecDepth 16384

noncomputable section

namespace Cert.KernelIdeal.Pool

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The arguments as arrays. -/
abbrev A0 (c : Dev nD) : Vec Ideal S20x1152x1536 .bf16 := m ((c : Thread nD τ).loc main_arg0)
abbrev A1 (c : Dev nD) : Vec Ideal S20x1152x8960 .fp8e4m3 := m ((c : Thread nD τ).loc main_arg1)
abbrev A2 (c : Dev nD) : Vec Ideal S20x1152 .f32 := m ((c : Thread nD τ).loc main_arg2)
abbrev A3 (c : Dev nD) : Vec Ideal S8960x1536 .fp8e4m3 := m ((c : Thread nD τ).loc main_arg3)
abbrev A4 (c : Dev nD) : Vec Ideal S1536 .f32 := m ((c : Thread nD τ).loc main_arg4)
abbrev A5 (c : Dev nD) : Vec Ideal S1536 .f32 := m ((c : Thread nD τ).loc main_arg5)
abbrev A6 (c : Dev nD) : Vec Ideal S1536 .f32 := m ((c : Thread nD τ).loc main_arg6)
abbrev A7 (c : Dev nD) : Vec Ideal S1536 .f32 := m ((c : Thread nD τ).loc main_arg7)
abbrev A8 (c : Dev nD) : Vec Ideal S20 .i32 := m ((c : Thread nD τ).loc main_arg8)

theorem lt180 (hO : Ok m) (t : Fin (cfgM m hO).N) : t.val < 180 := Nat.lt_of_lt_of_eq t.isLt N_0

/-- The batch of a point. -/
def bat (hO : Ok m) (t : Fin (cfgM m hO).N) : Fin 20 := ⟨t.val / 9, by have := lt180 m hO t; omega⟩
/-- Row `r` of a point's block, as a row of the array. -/
def row (hO : Ok m) (t : Fin (cfgM m hO).N) (r : Fin 128) : Fin 1152 := ⟨t.val % 9 * 128 + r.val, by omega⟩

/-- A one-dimensional argument as the host hands it over: a single row. -/
theorem V_v0 (c : Dev nD) (d : Fin 1536) : (V m c main_v0 : Vec Ideal S1x1536 .f32) (ix2 0 d) = A4 m c (ix1 d) := by
  have h : V m c main_v0 = fun j => shapeCast S1x1536 (A4 m c) shapeCasts_S1536_S1x1536 j := by
    show StableHlo.after (hostOps0 : List (HloOp τ sig (Elt Ideal))) (fun b => m (c, b)) (Proc.devRef .tc main_v0) = _
    unfold hostOps0
    after_results
    rfl
  rw [h]
  pointwise
/-- A one-dimensional argument as the host hands it over: a single row. -/
theorem V_v1 (c : Dev nD) (d : Fin 1536) : (V m c main_v1 : Vec Ideal S1x1536 .f32) (ix2 0 d) = A5 m c (ix1 d) := by
  have h : V m c main_v1 = fun j => shapeCast S1x1536 (A5 m c) shapeCasts_S1536_S1x1536 j := by
    show StableHlo.after (hostOps0 : List (HloOp τ sig (Elt Ideal))) (fun b => m (c, b)) (Proc.devRef .tc main_v1) = _
    unfold hostOps0
    after_results
    rfl
  rw [h]
  pointwise
/-- A one-dimensional argument as the host hands it over: a single row. -/
theorem V_v2 (c : Dev nD) (d : Fin 1536) : (V m c main_v2 : Vec Ideal S1x1536 .f32) (ix2 0 d) = A6 m c (ix1 d) := by
  have h : V m c main_v2 = fun j => shapeCast S1x1536 (A6 m c) shapeCasts_S1536_S1x1536 j := by
    show StableHlo.after (hostOps0 : List (HloOp τ sig (Elt Ideal))) (fun b => m (c, b)) (Proc.devRef .tc main_v2) = _
    unfold hostOps0
    after_results
    rfl
  rw [h]
  pointwise
/-- A one-dimensional argument as the host hands it over: a single row. -/
theorem V_v3 (c : Dev nD) (d : Fin 1536) : (V m c main_v3 : Vec Ideal S1x1536 .f32) (ix2 0 d) = A7 m c (ix1 d) := by
  have h : V m c main_v3 = fun j => shapeCast S1x1536 (A7 m c) shapeCasts_S1536_S1x1536 j := by
    show StableHlo.after (hostOps0 : List (HloOp τ sig (Elt Ideal))) (fun b => m (c, b)) (Proc.devRef .tc main_v3) = _
    unfold hostOps0
    after_results
    rfl
  rw [h]
  pointwise

/-- The scales' window holds the whole argument. -/
theorem iblk0_apply (hO : Ok m) (c : Dev nD) (t : Fin (cfgM m hO).N) (p : Fin 20) (r : Fin 1152) :
    (iblk m hO c 0 t : Vec Ideal S20x1152 .f32) (ix2 p r) = A2 m c (ix2 p r) := by
  show V m c main_arg2 ((((cfgM m hO).win 0).blk t).view.emb (ix2 p r)) = _
  rw [V_main_arg2]
  refine congrArg (A2 m c) (funext fun a => Fin.ext ?_)
  match a with
  | ⟨0, _⟩ => show 0 * 20 + 1 * p.val = p.val; omega
  | ⟨1, _⟩ => show 0 * 1152 + 1 * r.val = r.val; omega

/-- The weights' window holds the whole argument. -/
theorem iblk3_apply (hO : Ok m) (c : Dev nD) (t : Fin (cfgM m hO).N) (k : Fin 8960) (d : Fin 1536) :
    (iblk m hO c 3 t : Vec Ideal S8960x1536 .fp8e4m3) (ix2 k d) = A3 m c (ix2 k d) := by
  show V m c main_arg3 ((((cfgM m hO).win 3).blk t).view.emb (ix2 k d)) = _
  rw [V_main_arg3]
  refine congrArg (A3 m c) (funext fun a => Fin.ext ?_)
  match a with
  | ⟨0, _⟩ => show 0 * 8960 + 1 * k.val = k.val; omega
  | ⟨1, _⟩ => show 0 * 1536 + 1 * d.val = d.val; omega

/-- Window 4 holds the whole of its row. -/
theorem iblk4_apply (hO : Ok m) (c : Dev nD) (t : Fin (cfgM m hO).N) (d : Fin 1536) :
    (iblk m hO c 4 t : Vec Ideal S1x1536 .f32) (ix2 0 d) = A4 m c (ix1 d) := by
  show (V m c main_v0 : Vec Ideal S1x1536 .f32) ((((cfgM m hO).win 4).blk t).view.emb (ix2 0 d)) = _
  rw [← V_v0]
  refine congrArg (V m c main_v0 : Vec Ideal S1x1536 .f32) (funext fun a => Fin.ext ?_)
  match a with
  | ⟨0, _⟩ => show 0 * 1 + 1 * 0 = 0; omega
  | ⟨1, _⟩ => show 0 * 1536 + 1 * d.val = d.val; omega

/-- Window 5 holds the whole of its row. -/
theorem iblk5_apply (hO : Ok m) (c : Dev nD) (t : Fin (cfgM m hO).N) (d : Fin 1536) :
    (iblk m hO c 5 t : Vec Ideal S1x1536 .f32) (ix2 0 d) = A5 m c (ix1 d) := by
  show (V m c main_v1 : Vec Ideal S1x1536 .f32) ((((cfgM m hO).win 5).blk t).view.emb (ix2 0 d)) = _
  rw [← V_v1]
  refine congrArg (V m c main_v1 : Vec Ideal S1x1536 .f32) (funext fun a => Fin.ext ?_)
  match a with
  | ⟨0, _⟩ => show 0 * 1 + 1 * 0 = 0; omega
  | ⟨1, _⟩ => show 0 * 1536 + 1 * d.val = d.val; omega

/-- Window 6 holds the whole of its row. -/
theorem iblk6_apply (hO : Ok m) (c : Dev nD) (t : Fin (cfgM m hO).N) (d : Fin 1536) :
    (iblk m hO c 6 t : Vec Ideal S1x1536 .f32) (ix2 0 d) = A6 m c (ix1 d) := by
  show (V m c main_v2 : Vec Ideal S1x1536 .f32) ((((cfgM m hO).win 6).blk t).view.emb (ix2 0 d)) = _
  rw [← V_v2]
  refine congrArg (V m c main_v2 : Vec Ideal S1x1536 .f32) (funext fun a => Fin.ext ?_)
  match a with
  | ⟨0, _⟩ => show 0 * 1 + 1 * 0 = 0; omega
  | ⟨1, _⟩ => show 0 * 1536 + 1 * d.val = d.val; omega

/-- Window 7 holds the whole of its row. -/
theorem iblk7_apply (hO : Ok m) (c : Dev nD) (t : Fin (cfgM m hO).N) (d : Fin 1536) :
    (iblk m hO c 7 t : Vec Ideal S1x1536 .f32) (ix2 0 d) = A7 m c (ix1 d) := by
  show (V m c main_v3 : Vec Ideal S1x1536 .f32) ((((cfgM m hO).win 7).blk t).view.emb (ix2 0 d)) = _
  rw [← V_v3]
  refine congrArg (V m c main_v3 : Vec Ideal S1x1536 .f32) (funext fun a => Fin.ext ?_)
  match a with
  | ⟨0, _⟩ => show 0 * 1 + 1 * 0 = 0; omega
  | ⟨1, _⟩ => show 0 * 1536 + 1 * d.val = d.val; omega

/-- A point's word is the row count of its batch. -/
theorem wd_eq (hO : Ok m) (c : Dev nD) (t : Fin (cfgM m hO).N) : wd m hO t = A8 m c (ix1 (bat m hO t)) := by
  have hc : c = 0 := Subsingleton.elim _ _
  subst hc
  show wordAt (tbl m) (grid0.coords t) = _
  rw [wordAt_eq, ix1_eq_valueIdx]
  exact congrArg (fun q => A8 m 0 (ValueIdx.ix1 q)) (Fin.ext (coord0 t))

/-- The row block the two large windows read at a point that is not skipped is the point's own. -/
theorem blk_active (hP : Pos m) (hO : Ok m) (t : Fin (cfgM m hO).N) (h : ¬cond0_2 (grid0.coords t) (wd m hO t)) :
    (Words.blkOf (BitVec.ofNat 32 ((grid0.coords t) 1).val) (wordAt (tbl m) (grid0.coords t))).toNat = t.val % 9 := by
  obtain ⟨n, h1, h2, hn⟩ := hP (grid0.coords t)
  rw [blk_toNat _ h1 h2 hn]
  have h' : ¬cond0_2 (grid0.coords t) (BitVec.ofNat 32 n) := hn ▸ h
  rw [skip_iff _ h2] at h'
  rw [coord1 t] at h' ⊢
  omega

/-- Window 1 at a point that is not skipped: the point's rows of the argument. -/
theorem iblk1_apply (hP : Pos m) (hO : Ok m) (c : Dev nD) (t : Fin (cfgM m hO).N) (h : ¬cond0_2 (grid0.coords t) (wd m hO t)) (r : Fin 128) (d : Fin 1536) :
    (iblk m hO c 1 t : Vec Ideal S1x128x1536 .bf16) (ix3 0 r d) = A0 m c (ix3 (bat m hO t) (row m hO t r) d) := by
  show V m c main_arg0 ((((cfgM m hO).win 1).blk t).view.emb (ix3 0 r d)) = _
  rw [V_main_arg0]
  refine congrArg (A0 m c) (funext fun a => Fin.ext ?_)
  match a with
  | ⟨0, _⟩ =>
    show (BitVec.ofNat 32 ((grid0.coords t) 0).val).toNat * 1 + 1 * 0 = t.val / 9
    rw [c0_toNat, coord0 t]; omega
  | ⟨1, _⟩ =>
    show (Words.blkOf (BitVec.ofNat 32 ((grid0.coords t) 1).val) (wordAt (tbl m) (grid0.coords t))).toNat * 128 + 1 * r.val = t.val % 9 * 128 + r.val
    rw [blk_active m hP hO t h]; omega
  | ⟨2, _⟩ => show 0 * 1536 + 1 * d.val = d.val; omega

/-- Window 2 at a point that is not skipped: the point's rows of the argument. -/
theorem iblk2_apply (hP : Pos m) (hO : Ok m) (c : Dev nD) (t : Fin (cfgM m hO).N) (h : ¬cond0_2 (grid0.coords t) (wd m hO t)) (r : Fin 128) (d : Fin 8960) :
    (iblk m hO c 2 t : Vec Ideal S1x128x8960 .fp8e4m3) (ix3 0 r d) = A1 m c (ix3 (bat m hO t) (row m hO t r) d) := by
  show V m c main_arg1 ((((cfgM m hO).win 2).blk t).view.emb (ix3 0 r d)) = _
  rw [V_main_arg1]
  refine congrArg (A1 m c) (funext fun a => Fin.ext ?_)
  match a with
  | ⟨0, _⟩ =>
    show (BitVec.ofNat 32 ((grid0.coords t) 0).val).toNat * 1 + 1 * 0 = t.val / 9
    rw [c0_toNat, coord0 t]; omega
  | ⟨1, _⟩ =>
    show (Words.blkOf (BitVec.ofNat 32 ((grid0.coords t) 1).val) (wordAt (tbl m) (grid0.coords t))).toNat * 128 + 1 * r.val = t.val % 9 * 128 + r.val
    rw [blk_active m hP hO t h]; omega
  | ⟨2, _⟩ => show 0 * 8960 + 1 * d.val = d.val; omega

end Cert.KernelIdeal.Pool

end
-- ==== Proof.Reference.Run.lean ====
/- The reference's run: its four results as functions of the nine argument arrays, the arguments unchanged.
   One grid point, every window the whole of its array. -/
module

public import proofs.«01_k».proof.Proof.Gen.ReferenceIdeal.Frame
public import Idealize.ShloMosaic.Lib.Pipeline.Value

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S20x1152x1536.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S20x1536.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S20x1536.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S20.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S20x1152x1536.Idx) : ((cfg0.win 0).blk t).view.emb j = j := by
  obtain ⟨e0, e1, e2⟩ := idx_zero0 t
  funext a; apply Fin.ext
  match a with
  | ⟨0, _⟩ => show win0_0.index t (0 : Fin 3) * 20 + 1 * (j 0).val = (j 0).val; omega
  | ⟨1, _⟩ => show win0_0.index t (1 : Fin 3) * 1152 + 1 * (j 1).val = (j 1).val; omega
  | ⟨2, _⟩ => show win0_0.index t (2 : Fin 3) * 1536 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S20x1152x8960.Idx) : ((cfg0.win 1).blk t).view.emb j = j := by
  obtain ⟨e0, e1, e2⟩ := idx_zero1 t
  funext a; apply Fin.ext
  match a with
  | ⟨0, _⟩ => show win0_1.index t (0 : Fin 3) * 20 + 1 * (j 0).val = (j 0).val; omega
  | ⟨1, _⟩ => show win0_1.index t (1 : Fin 3) * 1152 + 1 * (j 1).val = (j 1).val; omega
  | ⟨2, _⟩ => show win0_1.index t (2 : Fin 3) * 8960 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S20x1152.Idx) : ((cfg0.win 2).blk t).view.emb j = j := by
  obtain ⟨e0, e1⟩ := idx_zero2 t
  funext a; apply Fin.ext
  match a with
  | ⟨0, _⟩ => show win0_2.index t (0 : Fin 2) * 20 + 1 * (j 0).val = (j 0).val; omega
  | ⟨1, _⟩ => show win0_2.index t (1 : Fin 2) * 1152 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S8960x1536.Idx) : ((cfg0.win 3).blk t).view.emb j = j := by
  obtain ⟨e0, e1⟩ := idx_zero3 t
  funext a; apply Fin.ext
  match a with
  | ⟨0, _⟩ => show win0_3.index t (0 : Fin 2) * 8960 + 1 * (j 0).val = (j 0).val; omega
  | ⟨1, _⟩ => show win0_3.index t (1 : Fin 2) * 1536 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S1536.Idx) : ((cfg0.win 4).blk t).view.emb j = j := by
  have e0 := idx_zero4 t
  funext a; apply Fin.ext
  match a with
  | ⟨0, _⟩ => show win0_4.index t (0 : Fin 1) * 1536 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1536.Idx) : ((cfg0.win 5).blk t).view.emb j = j := by
  have e0 := idx_zero5 t
  funext a; apply Fin.ext
  match a with
  | ⟨0, _⟩ => show win0_5.index t (0 : Fin 1) * 1536 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S1536.Idx) : ((cfg0.win 6).blk t).view.emb j = j := by
  have e0 := idx_zero6 t
  funext a; apply Fin.ext
  match a with
  | ⟨0, _⟩ => show win0_6.index t (0 : Fin 1) * 1536 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S1536.Idx) : ((cfg0.win 7).blk t).view.emb j = j := by
  have e0 := idx_zero7 t
  funext a; apply Fin.ext
  match a with
  | ⟨0, _⟩ => show win0_7.index t (0 : Fin 1) * 1536 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S20.Idx) : ((cfg0.win 8).blk t).view.emb j = j := by
  have e0 := idx_zero8 t
  funext a; apply Fin.ext
  match a with
  | ⟨0, _⟩ => show win0_8.index t (0 : Fin 1) * 20 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S20x1152x1536.Idx) : ((cfg0.win 9).blk t).view.emb j = j := by
  obtain ⟨e0, e1, e2⟩ := idx_zero9 t
  funext a; apply Fin.ext
  match a with
  | ⟨0, _⟩ => show win0_9.index t (0 : Fin 3) * 20 + 1 * (j 0).val = (j 0).val; omega
  | ⟨1, _⟩ => show win0_9.index t (1 : Fin 3) * 1152 + 1 * (j 1).val = (j 1).val; omega
  | ⟨2, _⟩ => show win0_9.index t (2 : Fin 3) * 1536 + 1 * (j 2).val = (j 2).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S20x1536.Idx) : ((cfg0.win 10).blk t).view.emb j = j := by
  obtain ⟨e0, e1⟩ := idx_zero10 t
  funext a; apply Fin.ext
  match a with
  | ⟨0, _⟩ => show win0_10.index t (0 : Fin 2) * 20 + 1 * (j 0).val = (j 0).val; omega
  | ⟨1, _⟩ => show win0_10.index t (1 : Fin 2) * 1536 + 1 * (j 1).val = (j 1).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S20x1536.Idx) : ((cfg0.win 11).blk t).view.emb j = j := by
  obtain ⟨e0, e1⟩ := idx_zero11 t
  funext a; apply Fin.ext
  match a with
  | ⟨0, _⟩ => show win0_11.index t (0 : Fin 2) * 20 + 1 * (j 0).val = (j 0).val; omega
  | ⟨1, _⟩ => show win0_11.index t (1 : Fin 2) * 1536 + 1 * (j 1).val = (j 1).val; omega

theorem hz12 : (![0] : Fin 1 → Nat) = fun _ => 0 := funext fun a => by fin_cases a <;> rfl

/-- Window 12's block index at the one point is zero on every axis. -/
theorem idx_zero12 : ∀ t : Fin cfg0.N, win0_12.index t (0 : Fin 1) = 0 :=
  (by decide +kernel : ∀ t : Fin grid0.N, _)

/-- An index of window 12's block is the same index of its array. -/
theorem emb12 (t : Fin cfg0.N) (j : S20.Idx) : ((cfg0.win 12).blk t).view.emb j = j := by
  have e0 := idx_zero12 t
  funext a; apply Fin.ext
  match a with
  | ⟨0, _⟩ => show win0_12.index t (0 : Fin 1) * 20 + 1 * (j 0).val = (j 0).val; omega

/-! ### Output window 9: the array after the run -/

/-- What the window's array ends holding: `out0_9` applied to the argument arrays in place of the input blocks (a value that the
    frame states apart, `kK_payN a…`, keeps its loads inside its own definition). -/
abbrev G9 (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : Vec F S20x1152x1536 .f32 :=
  k0_pay2 a8 (k0_pay7 a0 a1 a2 a3 a4 a5 a6 a7 a8) a7

/-- A load of the whole of a block reads the block, and the one store through the whole rectangle leaves its payload. -/
theorem out9_eq (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : out0_9 (F := F) a0 a1 a2 a3 a4 a5 a6 a7 a8 = G9 a0 a1 a2 a3 a4 a5 a6 a7 a8 := by
  unfold out0_9
  rw [View.canon_unit_zero hz9, View.ld_unit_zero (S := S20) hz8 _ a8, View.ld_unit_zero (S := S1536) hz7 _ a7]

/-- Cutting the point's block out of `X` and reading `X` through the block's view give the same. -/
theorem cut9_eq (t : Fin cfg0.N) (X : Vec F S20x1152x1536 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq, iblk8_eq]
  exact cut9_eq t _

/-- Every index of the array is in the point's block. -/
theorem covered9 (i : S20x1152x1536.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg0) (V m c main_arg1) (V m c main_arg2) (V m c main_arg3) (V m c main_arg4) (V m c main_arg5) (V m c main_arg6) (V m c main_arg7) (V m c main_arg8)) (fun t _ => flushed9_eq m c t) covered9).trans (by rw [V_main_arg0, V_main_arg1, V_main_arg2, V_main_arg3, V_main_arg4, V_main_arg5, V_main_arg6, V_main_arg7, V_main_arg8])

/-! ### Output window 10: the array after the run -/

/-- What the window's array ends holding: `out0_10` applied to the argument arrays in place of the input blocks (a value that the
    frame states apart, `kK_payN a…`, keeps its loads inside its own definition). -/
abbrev G10 (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : Vec F S20x1536 .f32 :=
  k0_pay3 a8 (k0_pay7 a0 a1 a2 a3 a4 a5 a6 a7 a8) a7

/-- A load of the whole of a block reads the block, and the one store through the whole rectangle leaves its payload. -/
theorem out10_eq (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : out0_10 (F := F) a0 a1 a2 a3 a4 a5 a6 a7 a8 = G10 a0 a1 a2 a3 a4 a5 a6 a7 a8 := by
  unfold out0_10
  rw [View.canon_unit_zero hz10, View.ld_unit_zero (S := S20) hz8 _ a8, View.ld_unit_zero (S := S1536) hz7 _ a7]

/-- Cutting the point's block out of `X` and reading `X` through the block's view give the same. -/
theorem cut10_eq (t : Fin cfg0.N) (X : Vec F S20x1536 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq]
  exact cut10_eq t _

/-- Every index of the array is in the point's block. -/
theorem covered10 (i : S20x1536.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg0) (V m c main_arg1) (V m c main_arg2) (V m c main_arg3) (V m c main_arg4) (V m c main_arg5) (V m c main_arg6) (V m c main_arg7) (V m c main_arg8)) (fun t _ => flushed10_eq m c t) covered10).trans (by rw [V_main_arg0, V_main_arg1, V_main_arg2, V_main_arg3, V_main_arg4, V_main_arg5, V_main_arg6, V_main_arg7, V_main_arg8])

/-! ### Output window 11: the array after the run -/

/-- What the window's array ends holding: `out0_11` applied to the argument arrays in place of the input blocks (a value that the
    frame states apart, `kK_payN a…`, keeps its loads inside its own definition). -/
abbrev G11 (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : Vec F S20x1536 .i8 :=
  k0_pay6 a8 (k0_pay7 a0 a1 a2 a3 a4 a5 a6 a7 a8) a7

/-- A load of the whole of a block reads the block, and the one store through the whole rectangle leaves its payload. -/
theorem out11_eq (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : out0_11 (F := F) a0 a1 a2 a3 a4 a5 a6 a7 a8 = G11 a0 a1 a2 a3 a4 a5 a6 a7 a8 := by
  unfold out0_11
  rw [View.canon_unit_zero hz11, View.ld_unit_zero (S := S20) hz8 _ a8, View.ld_unit_zero (S := S1536) hz7 _ a7]

/-- Cutting the point's block out of `X` and reading `X` through the block's view give the same. -/
theorem cut11_eq (t : Fin cfg0.N) (X : Vec F S20x1536 .i8) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq]
  exact cut11_eq t _

/-- Every index of the array is in the point's block. -/
theorem covered11 (i : S20x1536.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 11 (G11 (V m c main_arg0) (V m c main_arg1) (V m c main_arg2) (V m c main_arg3) (V m c main_arg4) (V m c main_arg5) (V m c main_arg6) (V m c main_arg7) (V m c main_arg8)) (fun t _ => flushed11_eq m c t) covered11).trans (by rw [V_main_arg0, V_main_arg1, V_main_arg2, V_main_arg3, V_main_arg4, V_main_arg5, V_main_arg6, V_main_arg7, V_main_arg8])

/-! ### Output window 12: the array after the run -/

/-- What the window's array ends holding: `out0_12` applied to the argument arrays in place of the input blocks (a value that the
    frame states apart, `kK_payN a…`, keeps its loads inside its own definition). -/
abbrev G12 (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : Vec F S20 .f32 :=
  k0_pay5 a8 (k0_pay7 a0 a1 a2 a3 a4 a5 a6 a7 a8) a7

/-- A load of the whole of a block reads the block, and the one store through the whole rectangle leaves its payload. -/
theorem out12_eq (a0 : Vec F S20x1152x1536 .bf16) (a1 : Vec F S20x1152x8960 .fp8e4m3) (a2 : Vec F S20x1152 .f32) (a3 : Vec F S8960x1536 .fp8e4m3) (a4 : Vec F S1536 .f32) (a5 : Vec F S1536 .f32) (a6 : Vec F S1536 .f32) (a7 : Vec F S1536 .f32) (a8 : Vec F S20 .i32) : out0_12 (F := F) a0 a1 a2 a3 a4 a5 a6 a7 a8 = G12 a0 a1 a2 a3 a4 a5 a6 a7 a8 := by
  unfold out0_12
  rw [View.canon_unit_zero hz12, View.ld_unit_zero (S := S20) hz8 _ a8, View.ld_unit_zero (S := S1536) hz7 _ a7]

/-- Cutting the point's block out of `X` and reading `X` through the block's view give the same. -/
theorem cut12_eq (t : Fin cfg0.N) (X : Vec F S20 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq]
  exact cut12_eq t _

/-- Every index of the array is in the point's block. -/
theorem covered12 (i : S20.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 12 (G12 (V m c main_arg0) (V m c main_arg1) (V m c main_arg2) (V m c main_arg3) (V m c main_arg4) (V m c main_arg5) (V m c main_arg6) (V m c main_arg7) (V m c main_arg8)) (fun t _ => flushed12_eq m c t) covered12).trans (by rw [V_main_arg0, V_main_arg1, V_main_arg2, V_main_arg3, V_main_arg4, V_main_arg5, V_main_arg6, V_main_arg7, V_main_arg8])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_3) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.ReferenceIdeal.Whole

end
-- ==== Proof.Reference.Read.lean ====
/- The reference's four results, entry by entry, as the plain mathematics of its arguments. -/
module

public import proofs.«01_k».proof.Proof.Gen.ReferenceIdeal.Frame
public import proofs.«01_k».proof.Proof.Reference.Run
public import proofs.«01_k».proof.Proof.Nums
public import Idealize.ShloMosaic.Lib.Pointwise

@[expose] public section

set_option maxRecDepth 16384

noncomputable section

namespace Cert.ReferenceIdeal.Whole

open Idealize.ShloMosaic Cert.ReferenceIdeal Cert.ReferenceIdeal.Gen

variable (a0 : Vec Ideal S20x1152x1536 .bf16) (a1 : Vec Ideal S20x1152x8960 .fp8e4m3) (a2 : Vec Ideal S20x1152 .f32) (a3 : Vec Ideal S8960x1536 .fp8e4m3)
  (a4 a5 a6 a7 : Vec Ideal S1536 .f32) (a8 : Vec Ideal S20 .i32)

/-- Row `r` of batch `p` before the norm. -/
def Y (p : Fin 20) (r : Fin 1152) : Fin 1536 → EReal :=
  Nums.rowY (fun d => a0 (ix3 p r d)) (fun k => a1 (ix3 p r k)) (fun k d => a3 (ix2 k d)) (a2 (ix2 p r)) (fun d => a4 (ix1 d)) (fun d => a5 (ix1 d))

/-- Row `r` of batch `p`, normed, zero past the batch's row count. -/
def Z (p : Fin 20) (r : Fin 1152) (d : Fin 1536) : EReal :=
  Scalar.select (IntOp.cmpi .slt (BitVec.ofNat 32 r.val) (a8 (ix1 p)))
    (Nums.rowZ (Y a0 a1 a2 a3 a4 a5 p r) (fun d => a6 (ix1 d)) (fun d => a7 (ix1 d)) d) 0

/-- The mean of a batch's rows. -/
def M (p : Fin 20) (d : Fin 1536) : EReal := Nums.mean (fun r => Z a0 a1 a2 a3 a4 a5 a6 a7 a8 p r d) (a8 (ix1 p))

/-- The normed rows without the last bias. -/
theorem pay7_apply (p : Fin 20) (r : Fin 1152) (d : Fin 1536) :
    k0_pay7 (F := Ideal) a0 a1 a2 a3 a4 a5 a6 a7 a8 (ix3 p r d)
      = Nums.cen (Y a0 a1 a2 a3 a4 a5 p r) d
        * Ideal.rsqrt (Ideal.div (∑ e, Nums.cen (Y a0 a1 a2 a3 a4 a5 p r) e * Nums.cen (Y a0 a1 a2 a3 a4 a5 p r) e) (Ideal.ofBits .f32 1153433600#32) + Ideal.ofBits .f32 925353388#32)
        * a6 (ix1 d) := by
  unfold k0_pay7
  rw [View.ld_unit_zero (S := S20x1152x8960) hz1 _ a1, View.ld_unit_zero (S := S8960x1536) hz3 _ a3, View.ld_unit_zero (S := S20x1152) hz2 _ a2,
    View.ld_unit_zero (S := S1536) hz4 _ a4, View.ld_unit_zero (S := S20x1152x1536) hz0 _ a0, View.ld_unit_zero (S := S1536) hz5 _ a5, View.ld_unit_zero (S := S1536) hz6 _ a6]
  pointwise [k0_pay1]
  rfl

/-- The first result. -/
theorem G9_apply (p : Fin 20) (r : Fin 1152) (d : Fin 1536) :
    G9 (F := Ideal) a0 a1 a2 a3 a4 a5 a6 a7 a8 (ix3 p r d) = Z a0 a1 a2 a3 a4 a5 a6 a7 a8 p r d := by
  unfold G9
  pointwise [k0_pay2]
  rw [pay7_apply]
  rfl

/-- The second result. -/
theorem G10_apply (p : Fin 20) (d : Fin 1536) :
    G10 (F := Ideal) a0 a1 a2 a3 a4 a5 a6 a7 a8 (ix2 p d) = M a0 a1 a2 a3 a4 a5 a6 a7 a8 p d := by
  unfold G10
  pointwise [k0_pay3]
  have h := G9_apply a0 a1 a2 a3 a4 a5 a6 a7 a8
  unfold G9 at h
  simp only [h]
  rfl

/-- The unit vector inside the last two results. -/
theorem pay4_apply (p : Fin 20) (d : Fin 1536) :
    k0_pay4 (F := Ideal) a8 (k0_pay7 (F := Ideal) a0 a1 a2 a3 a4 a5 a6 a7 a8) a7 (ix2 p d) = Nums.unitv (M a0 a1 a2 a3 a4 a5 a6 a7 a8 p) d := by
  have h := G10_apply a0 a1 a2 a3 a4 a5 a6 a7 a8
  unfold G10 at h
  pointwise [k0_pay4]
  simp only [h]
  rfl

/-- The fourth result. -/
theorem G12_apply (p : Fin 20) :
    G12 (F := Ideal) a0 a1 a2 a3 a4 a5 a6 a7 a8 (ix1 p) = Nums.scale (M a0 a1 a2 a3 a4 a5 a6 a7 a8 p) := by
  unfold G12
  pointwise [k0_pay5]
  simp only [pay4_apply]
  rfl

/-- The third result. -/
theorem G11_apply (p : Fin 20) (d : Fin 1536) :
    G11 (F := Ideal) a0 a1 a2 a3 a4 a5 a6 a7 a8 (ix2 p d) = Nums.code (M a0 a1 a2 a3 a4 a5 a6 a7 a8 p) d := by
  have h := G12_apply a0 a1 a2 a3 a4 a5 a6 a7 a8
  unfold G12 at h
  unfold G11
  pointwise [k0_pay6]
  rw [pay4_apply, h]
  rfl

end Cert.ReferenceIdeal.Whole

end
-- ==== Proof.KernelIdeal.Point.lean ====
/- One grid point at exact arithmetic: the scale its rows select, and its masked rows as those of the plain mathematics. -/
module

public import proofs.«01_k».proof.Proof.KernelIdeal.Blocks
public import proofs.«01_k».proof.Proof.Reference.Read
public import Idealize.ShloMosaic.Lib.WordCmp
public import Idealize.ShloMosaic.Lib.Pointwise
public import Idealize.ShloMosaic.Lib.Pointwise.IndexBridge

@[expose] public section

set_option maxRecDepth 16384

noncomputable section

namespace Cert.KernelIdeal.Pool

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The plain row `r` of batch `p`, before the norm, of the kernel's arguments. -/
abbrev KY (c : Dev nD) (p : Fin 20) (r : Fin 1152) : Fin 1536 → EReal :=
  ReferenceIdeal.Whole.Y (A0 m c) (A1 m c) (A2 m c) (A3 m c) (A4 m c) (A5 m c) p r
/-- The plain masked row. -/
abbrev KZ (c : Dev nD) (p : Fin 20) (r : Fin 1152) (d : Fin 1536) : EReal :=
  ReferenceIdeal.Whole.Z (A0 m c) (A1 m c) (A2 m c) (A3 m c) (A4 m c) (A5 m c) (A6 m c) (A7 m c) (A8 m c) p r d
/-- The plain mean. -/
abbrev KM (c : Dev nD) (p : Fin 20) : Fin 1536 → EReal :=
  ReferenceIdeal.Whole.M (A0 m c) (A1 m c) (A2 m c) (A3 m c) (A4 m c) (A5 m c) (A6 m c) (A7 m c) (A8 m c) p

/-- The first row of a point's block, as a word. -/
theorem row0_word (hO : Ok m) (t : Fin (cfgM m hO).N) :
    Scalar.muli (BitVec.ofNat 32 ((grid0.coords t) 1).val) 128#32 = BitVec.ofNat 32 (t.val % 9 * 128) := by
  rw [coord1 t]
  show BitVec.ofNat 32 (t.val % 9) * BitVec.ofNat 32 128 = _
  rw [← BitVec.ofNat_mul]

/-- The transposed scales at an index of known coordinates. -/
theorem hstVal_at (x : Vec Ideal S20x1152 .f32) (y : S1152x128.Idx) (q : Fin 1152) (l : Fin 128) (e0 : (y 0).val = q.val) (e1 : (y 1).val = l.val) :
    hstVal x y = if h : l.val < 20 then x (ix2 ⟨l.val, h⟩ q) else 0 := by
  have hy : y = ix2 q l := funext fun a => Fin.ext (by match a with | ⟨0, _⟩ => exact e0 | ⟨1, _⟩ => exact e1)
  subst hy
  show (if h : l.val < 20 then x (ValueIdx.ix2 ⟨l.val, h⟩ q) else Scalar.ofBits (F := Ideal) .f32 0x00000000#32) = _
  by_cases h : l.val < 20
  · rw [dif_pos h, dif_pos h, ix2_eq_valueIdx]
  · rw [dif_neg h, dif_neg h]
    exact Ideal.ofBits_zero_f32

/-- The rows of scales a point reads. -/
theorem rows_apply (hO : Ok m) (c : Dev nD) (t : Fin (cfgM m hO).N) (r l : Fin 128) :
    rowsAt (grid0.coords t) (hstC m hO c) (ix2 r l) = if h : l.val < 20 then A2 m c (ix2 ⟨l.val, h⟩ (row m hO t r)) else 0 := by
  refine (hstVal_at (iblk m hO c 0 (t0 m hO)) _ (row m hO t r) l ?_ ?_).trans ?_
  · show (Scalar.muli (BitVec.ofNat 32 ((grid0.coords t) 1).val) 128#32).toNat + 1 * r.val = t.val % 9 * 128 + r.val
    rw [row0_word m hO t, BitVec.toNat_ofNat]; omega
  · show 0 + 1 * l.val = l.val; omega
  · by_cases h : l.val < 20
    · rw [dif_pos h]
      exact (dif_pos h).trans (iblk0_apply m hO c (t0 m hO) ⟨l.val, h⟩ (row m hO t r))
    · rw [dif_neg h]
      exact dif_neg h

/-- The scale the lanes select is that of the point's batch. -/
theorem lane_eq (hO : Ok m) (c : Dev nD) (t : Fin (cfgM m hO).N) (r : Fin 128) :
    lane (BitVec.ofNat 32 ((grid0.coords t) 0).val) (rowsAt (grid0.coords t) (hstC m hO c)) r = A2 m c (ix2 (bat m hO t) (row m hO t r)) := by
  have hb : t.val / 9 < 20 := (bat m hO t).isLt
  unfold lane
  rw [coord0 t, Finset.sum_eq_single (⟨t.val / 9, by omega⟩ : Fin 128)]
  · rw [rows_apply, dif_pos hb, WordCmp.cmpi_eq_ofNat (by omega) (by omega), WordCmp.select_ofBool, if_pos (by simp)]
    rfl
  · intro l _ hl
    have hne : l.val ≠ t.val / 9 := fun e => hl (Fin.ext e)
    have hlt := l.isLt
    rw [WordCmp.cmpi_eq_ofNat (by omega) (by omega), WordCmp.select_ofBool, if_neg (by simpa using hne)]
  · intro h; exact absurd (Finset.mem_univ _) h

/-- A point's rows before the norm. -/
theorem blkY_eq (hP : Pos m) (hO : Ok m) (c : Dev nD) (t : Fin (cfgM m hO).N) (h : ¬cond0_2 (grid0.coords t) (wd m hO t)) (r : Fin 128) :
    blkY (BitVec.ofNat 32 ((grid0.coords t) 0).val) (iblk m hO c 2 t) (iblk m hO c 3 t) (rowsAt (grid0.coords t) (hstC m hO c)) (iblk m hO c 1 t) (iblk m hO c 4 t) (iblk m hO c 5 t) r
      = KY m c (bat m hO t) (row m hO t r) := by
  unfold blkY KY ReferenceIdeal.Whole.Y
  rw [lane_eq]
  simp only [iblk1_apply m hP hO c t h, iblk2_apply m hP hO c t h, iblk3_apply, iblk4_apply, iblk5_apply]

/-- The word of a row of a point's block. -/
theorem row_word (hO : Ok m) (t : Fin (cfgM m hO).N) (r : Fin 128) :
    IntOp.addi (Scalar.muli (BitVec.ofNat 32 ((grid0.coords t) 1).val) 128#32) (BitVec.ofNat 32 r.val) = BitVec.ofNat 32 (row m hO t r).val := by
  rw [row0_word m hO t]
  show BitVec.ofNat 32 (t.val % 9 * 128) + BitVec.ofNat 32 r.val = _
  rw [← BitVec.ofNat_add]
  rfl

/-- A point's masked, normed rows. -/
theorem blkZ_eq (hP : Pos m) (hO : Ok m) (c : Dev nD) (t : Fin (cfgM m hO).N) (h : ¬cond0_2 (grid0.coords t) (wd m hO t)) (r : Fin 128) (d : Fin 1536) :
    blkZ (grid0.coords t) (wd m hO t)
      (blkY (BitVec.ofNat 32 ((grid0.coords t) 0).val) (iblk m hO c 2 t) (iblk m hO c 3 t) (rowsAt (grid0.coords t) (hstC m hO c)) (iblk m hO c 1 t) (iblk m hO c 4 t) (iblk m hO c 5 t))
      (iblk m hO c 6 t) (iblk m hO c 7 t) r d
      = KZ m c (bat m hO t) (row m hO t r) d := by
  unfold blkZ KZ ReferenceIdeal.Whole.Z
  rw [blkY_eq m hP hO c t h, row_word, wd_eq m hO c t]
  simp only [iblk6_apply, iblk7_apply]

/-- Past the row count the plain masked rows are zero: a skipped block's are. -/
theorem KZ_skip (hP : Pos m) (hO : Ok m) (c : Dev nD) (t : Fin (cfgM m hO).N) (h : cond0_2 (grid0.coords t) (wd m hO t)) (r : Fin 128) (d : Fin 1536) :
    KZ m c (bat m hO t) (row m hO t r) d = 0 := by
  obtain ⟨n, h1, h2, hn⟩ := hP (grid0.coords t)
  have h' : cond0_2 (grid0.coords t) (BitVec.ofNat 32 n) := hn ▸ h
  rw [skip_iff _ h2, coord1 t] at h'
  have hr : n ≤ (row m hO t r).val := Nat.le_trans h' (Nat.le_add_right _ _)
  have hr2 := (row m hO t r).isLt
  unfold KZ ReferenceIdeal.Whole.Z
  rw [← wd_eq m hO c t]
  show Scalar.select (IntOp.cmpi .slt (BitVec.ofNat 32 (row m hO t r).val) (wordAt (tbl m) (grid0.coords t))) _ 0 = 0
  rw [hn, WordCmp.cmpi_slt_ofNat (by omega) (by omega), WordCmp.select_ofBool, if_neg (by simp; omega)]

/-- The block a point writes. -/
theorem zmAt_apply (hP : Pos m) (hO : Ok m) (c : Dev nD) (t : Fin (cfgM m hO).N) (r : Fin 128) (d : Fin 1536) :
    zmAt m hO c t (ix3 0 r d) = KZ m c (bat m hO t) (row m hO t r) d := by
  by_cases h : cond0_2 (grid0.coords t) (wd m hO t)
  · rw [zmAt_inactive m hO c t h, KZ_skip m hP hO c t h, pay7_apply]
  · rw [zmAt_active m hO c t h, ← blkZ_eq m hP hO c t h]
    exact pay9_apply _ _ _ _ _ _ _ _ _ _ _ _ _

end Cert.KernelIdeal.Pool

end
-- ==== Proof.KernelIdeal.Sums.lean ====
/- The running sums of a batch: after each block, over the rows so far; after the last, over all of them. -/
module

public import proofs.«01_k».proof.Proof.KernelIdeal.Point

@[expose] public section

set_option maxRecDepth 16384

noncomputable section

namespace Cert.KernelIdeal.Pool

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The plain masked rows at any natural row number. -/
def KR (c : Dev nD) (p : Fin 20) (d : Fin 1536) (n : ℕ) : EReal := if h : n < 1152 then KZ m c p ⟨n, h⟩ d else 0

theorem KR_row (hO : Ok m) (c : Dev nD) (t : Fin (cfgM m hO).N) (r : Fin 128) (d : Fin 1536) :
    KR m c (bat m hO t) d (t.val % 9 * 128 + r.val) = KZ m c (bat m hO t) (row m hO t r) d := dif_pos (row m hO t r).isLt

/-- What one point adds to a running sum. -/
theorem accStep_apply (hP : Pos m) (hO : Ok m) (c : Dev nD) (t : Fin (cfgM m hO).N) (a : Vec Ideal S8x1536 .f32) (q : Fin 8) (d : Fin 1536) :
    accStep m hO c t a (ix2 q d) = a (ix2 q d) + ∑ k : Fin 16, KR m c (bat m hO t) d (t.val % 9 * 128 + (k.val * 8 + q.val)) := by
  have e : ∀ k : Fin 16, KR m c (bat m hO t) d (t.val % 9 * 128 + (k.val * 8 + q.val)) = KZ m c (bat m hO t) (row m hO t ⟨k.val * 8 + q.val, by omega⟩) d :=
    fun k => KR_row m hO c t ⟨k.val * 8 + q.val, by omega⟩ d
  simp only [e]
  by_cases h : cond0_2 (grid0.coords t) (wd m hO t)
  · rw [accStep_inactive m hO c t h]
    simp only [KZ_skip m hP hO c t h, Finset.sum_const_zero, add_zero]
  · rw [accStep_active m hO c t h]
    refine (pay10_apply _ _ _ _ _ _ _ _ _ _ _ _ _ _).trans ?_
    simp only [blkZ_eq m hP hO c t h]

/-- A running sum after the block `j` of a batch: the rows of its residue in the blocks up to `j`. -/
theorem acc_upto (hP : Pos m) (hO : Ok m) (c : Dev nD) (q : Fin 8) (d : Fin 1536) :
    ∀ (j : ℕ) (t : Fin (cfgM m hO).N), t.val % 9 = j →
      accAt m hO c t.val t.isLt (ix2 q d) = ∑ i ∈ Finset.range (j + 1), ∑ k : Fin 16, KR m c (bat m hO t) d (i * 128 + (k.val * 8 + q.val)) := by
  intro j
  induction j with
  | zero =>
    intro t ht
    rw [accAt_first m hO c t ht, accStep_apply m hP hO c t, pay6_apply, zero_add, ht, Finset.sum_range_one]
  | succ j ih =>
    intro t ht
    have hp : t.val - 1 < (cfgM m hO).N := Nat.lt_of_le_of_lt (Nat.sub_le _ _) t.isLt
    have hb : bat m hO ⟨t.val - 1, hp⟩ = bat m hO t := Fin.ext (by show (t.val - 1) / 9 = t.val / 9; omega)
    have := ih ⟨t.val - 1, hp⟩ (by show (t.val - 1) % 9 = j; omega)
    rw [accAt_next m hO c t (by omega), accStep_apply m hP hO c t, Finset.sum_range_succ, ht]
    rw [hb] at this
    rw [← this]

/-- A sum over `a * b` numbers, as `a` runs of `b`. -/
theorem sum_runs (f : ℕ → EReal) (a b : ℕ) : ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- After a batch's last block the eight running sums together are the sum over all its rows. -/
theorem acc_total (hP : Pos m) (hO : Ok m) (c : Dev nD) (t : Fin (cfgM m hO).N) (ht : t.val % 9 = 8) (d : Fin 1536) :
    ∑ q : Fin 8, accAt m hO c t.val t.isLt (ix2 q d) = ∑ r : Fin 1152, KZ m c (bat m hO t) r d := by
  have e : ∀ r : Fin 1152, KZ m c (bat m hO t) r d = KR m c (bat m hO t) d r.val := fun r => by
    unfold KR
    rw [dif_pos r.isLt]
  simp only [e, acc_upto m hP hO c _ d 8 t ht]
  rw [Fin.sum_univ_eq_sum_range (fun n => KR m c (bat m hO t) d n) 1152, show 1152 = 9 * 128 from rfl, sum_runs, Finset.sum_comm]
  refine Finset.sum_congr rfl fun i _ => ?_
  rw [show 128 = 16 * 8 from rfl, sum_runs (fun n => KR m c (bat m hO t) d (i * (16 * 8) + n)), Finset.sum_comm,
    ← Fin.sum_univ_eq_sum_range (fun k => ∑ q ∈ Finset.range 8, KR m c (bat m hO t) d (i * (16 * 8) + (k * 8 + q))) 16]
  refine Finset.sum_congr rfl fun k _ => ?_
  exact Fin.sum_univ_eq_sum_range (fun q => KR m c (bat m hO t) d (i * (16 * 8) + (k.val * 8 + q))) 8

/-- The mean a batch's last block computes is the plain one. -/
theorem accM_eq (hP : Pos m) (hO : Ok m) (c : Dev nD) (t : Fin (cfgM m hO).N) (ht : t.val % 9 = 8) :
    accM (wd m hO t) (accAt m hO c t.val t.isLt) = KM m c (bat m hO t) := by
  funext d
  unfold accM KM ReferenceIdeal.Whole.M Nums.mean
  rw [acc_total m hP hO c t ht, wd_eq m hO c t]

end Cert.KernelIdeal.Pool

end
-- ==== Proof.KernelIdeal.Arrays.lean ====
/- The four results after the run: each is the reference's of the same arguments. -/
module

public import proofs.«01_k».proof.Proof.KernelIdeal.Sums
public import Idealize.ShloMosaic.Lib.Pipeline.ValueKit.Geometry

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The first output array. -/
def F8 (c : Dev nD) : Vec Ideal S20x1152x1536 .f32 := fun j => KZ m c (j 0) (j 1) (j 2)
/-- The second output array: the means, as the region leaves them. -/
def F9 (c : Dev nD) : Vec Ideal S20x1x1536 .f32 := fun j => KM m c (j 0) (j 2)
/-- The third output array: the codes. -/
def F10 (c : Dev nD) : Vec Ideal S20x1x1536 .i8 := fun j => Nums.code (KM m c (j 0)) (j 2)
/-- The fourth output array: the scales, the same in every lane. -/
def F11 (c : Dev nD) : Vec Ideal S20x1x128 .f32 := fun j => Nums.scale (KM m c (j 0))

/-- The point of a batch and a block of rows. -/
def ptOf (hO : Ok m) (p : Fin 20) (b : Fin 9) : Fin (cfgM m hO).N := ⟨p.val * 9 + b.val, by
  have : (cfgM m hO).N = 180 := N_0
  omega⟩

/-! ### Where the blocks lie -/

theorem emb8 (hO : Ok m) (t : Fin (cfgM m hO).N) (y : S1x128x1536.Idx) :
    (((cfgM m hO).win 8).blk t).view.emb y = ix3 (bat m hO t) (row m hO t (y 1)) (y 2) := by
  have h0 : (y 0).val < 1 := (y 0).isLt
  refine funext fun a => Fin.ext ?_
  match a with
  | ⟨0, _⟩ =>
    show (BitVec.ofNat 32 ((grid0.coords t) 0).val).toNat * 1 + 1 * (y 0).val = t.val / 9
    rw [c0_toNat, coord0 t]; omega
  | ⟨1, _⟩ =>
    show (BitVec.ofNat 32 ((grid0.coords t) 1).val).toNat * 128 + 1 * (y 1).val = t.val % 9 * 128 + (y 1).val
    rw [coord1 t, BitVec.toNat_ofNat]; omega
  | ⟨2, _⟩ => show 0 * 1536 + 1 * (y 2).val = (y 2).val; omega

theorem emb9 (hO : Ok m) (t : Fin (cfgM m hO).N) (y : S1x1x1536.Idx) :
    (((cfgM m hO).win 9).blk t).view.emb y = ix3 (bat m hO t) 0 (y 2) := by
  have h0 : (y 0).val < 1 := (y 0).isLt
  have h1 : (y 1).val < 1 := (y 1).isLt
  refine funext fun a => Fin.ext ?_
  match a with
  | ⟨0, _⟩ =>
    show (BitVec.ofNat 32 ((grid0.coords t) 0).val).toNat * 1 + 1 * (y 0).val = t.val / 9
    rw [c0_toNat, coord0 t]; omega
  | ⟨1, _⟩ => show 0 * 1 + 1 * (y 1).val = 0; omega
  | ⟨2, _⟩ => show 0 * 1536 + 1 * (y 2).val = (y 2).val; omega

theorem emb10 (hO : Ok m) (t : Fin (cfgM m hO).N) (y : S1x1x1536.Idx) :
    (((cfgM m hO).win 10).blk t).view.emb y = ix3 (bat m hO t) 0 (y 2) := by
  have h0 : (y 0).val < 1 := (y 0).isLt
  have h1 : (y 1).val < 1 := (y 1).isLt
  refine funext fun a => Fin.ext ?_
  match a with
  | ⟨0, _⟩ =>
    show (BitVec.ofNat 32 ((grid0.coords t) 0).val).toNat * 1 + 1 * (y 0).val = t.val / 9
    rw [c0_toNat, coord0 t]; omega
  | ⟨1, _⟩ => show 0 * 1 + 1 * (y 1).val = 0; omega
  | ⟨2, _⟩ => show 0 * 1536 + 1 * (y 2).val = (y 2).val; omega

theorem emb11 (hO : Ok m) (t : Fin (cfgM m hO).N) (y : S1x1x128.Idx) :
    (((cfgM m hO).win 11).blk t).view.emb y = ix3 (bat m hO t) 0 (y 2) := by
  have h0 : (y 0).val < 1 := (y 0).isLt
  have h1 : (y 1).val < 1 := (y 1).isLt
  refine funext fun a => Fin.ext ?_
  match a with
  | ⟨0, _⟩ =>
    show (BitVec.ofNat 32 ((grid0.coords t) 0).val).toNat * 1 + 1 * (y 0).val = t.val / 9
    rw [c0_toNat, coord0 t]; omega
  | ⟨1, _⟩ => show 0 * 1 + 1 * (y 1).val = 0; omega
  | ⟨2, _⟩ => show 0 * 128 + 1 * (y 2).val = (y 2).val; omega

/-! ### What each point leaves, and that every entry is left -/

theorem block8 (hP : Pos m) (hO : Ok m) (c : Dev nD) (t : Fin (cfgM m hO).N) (y : S1x128x1536.Idx) :
    zmAt m hO c t y = F8 m c ((((cfgM m hO).win 8).blk t).view.emb y) := by
  refine Eq.trans ?_ (congrArg (F8 m c) (emb8 m hO t y)).symm
  have hy : y = ix3 0 (y 1) (y 2) := by
    refine (eq_ix3 y).trans ?_
    exact congrArg (fun q : Fin 1 => ix3 q _ _) (Subsingleton.elim _ _)
  exact (congrArg (zmAt m hO c t) hy).trans (zmAt_apply m hP hO c t (y 1) (y 2))

theorem mem8 (hO : Ok m) (t : Fin (cfgM m hO).N) (y : S1x128x1536.Idx) (i : S20x1152x1536.Idx) (e : (((cfgM m hO).win 8).blk t).view.emb y = i) :
    i ∈ (((cfgM m hO).win 8).blk t).view.set := by
  subst e
  exact (((cfgM m hO).win 8).blk t).view.emb_mem_set y

theorem cover8 (hO : Ok m) (i : S20x1152x1536.Idx) :
    ∃ t : Fin (cfgM m hO).N, ((cfgM m hO).win 8).flush t = true ∧ i ∈ (((cfgM m hO).win 8).blk t).view.set := by
  have h0 : (i 0).val < 20 := (i 0).isLt
  have h1 : (i 1).val < 1152 := (i 1).isLt
  have hq : (i 1).val / 128 < 9 := by omega
  have hr : (i 1).val % 128 < 128 := by omega
  refine ⟨ptOf m hO (i 0) ⟨(i 1).val / 128, hq⟩, flush0_8 _ _, ?_⟩
  have e : (((cfgM m hO).win 8).blk (ptOf m hO (i 0) ⟨(i 1).val / 128, hq⟩)).view.emb (ix3 0 ⟨(i 1).val % 128, hr⟩ (i 2) : S1x128x1536.Idx) = i := by
    refine (emb8 m hO _ _).trans (funext fun a => Fin.ext ?_)
    match a with
    | ⟨0, _⟩ => show ((i 0).val * 9 + (i 1).val / 128) / 9 = (i 0).val; omega
    | ⟨1, _⟩ => show ((i 0).val * 9 + (i 1).val / 128) % 9 * 128 + (i 1).val % 128 = (i 1).val; omega
    | ⟨2, _⟩ => rfl
  exact mem8 m hO _ _ i e

theorem block9 (hP : Pos m) (hO : Ok m) (c : Dev nD) (t : Fin (cfgM m hO).N) (ht : t.val % 9 = 8) (y : S1x1x1536.Idx) :
    k0_pay23 (wd m hO t) (accAt m hO c t.val t.isLt) y = F9 m c ((((cfgM m hO).win 9).blk t).view.emb y) := by
  refine Eq.trans ?_ (congrArg (F9 m c) (emb9 m hO t y)).symm
  have hy : y = ix3 0 0 (y 2) := by
    refine (eq_ix3 y).trans ?_
    exact congrArg₂ (fun q r : Fin 1 => ix3 q r _) (Subsingleton.elim _ _) (Subsingleton.elim _ _)
  refine (congrArg (k0_pay23 (F := Ideal) _ _) hy).trans ((pay23_apply _ _ _).trans ?_)
  exact congrFun (accM_eq m hP hO c t ht) _

theorem mem9 (hO : Ok m) (t : Fin (cfgM m hO).N) (y : S1x1x1536.Idx) (i : S20x1x1536.Idx) (e : (((cfgM m hO).win 9).blk t).view.emb y = i) :
    i ∈ (((cfgM m hO).win 9).blk t).view.set := by
  subst e
  exact (((cfgM m hO).win 9).blk t).view.emb_mem_set y

theorem cover9 (hO : Ok m) (i : S20x1x1536.Idx) :
    ∃ t : Fin (cfgM m hO).N, ((cfgM m hO).win 9).flush t = true ∧ i ∈ (((cfgM m hO).win 9).blk t).view.set := by
  have h0 : (i 0).val < 20 := (i 0).isLt
  have h1 : (i 1).val < 1 := (i 1).isLt
  refine ⟨ptOf m hO (i 0) 8, (flush0_9 _ _).mpr (by show ((i 0).val * 9 + 8) % 9 = 8; omega), ?_⟩
  have e : (((cfgM m hO).win 9).blk (ptOf m hO (i 0) 8)).view.emb (ix3 0 0 (i 2) : S1x1x1536.Idx) = i := by
    refine (emb9 m hO _ _).trans (funext fun a => Fin.ext ?_)
    match a with
    | ⟨0, _⟩ => show ((i 0).val * 9 + 8) / 9 = (i 0).val; omega
    | ⟨1, _⟩ => show 0 = (i 1).val; omega
    | ⟨2, _⟩ => rfl
  exact mem9 m hO _ _ i e

theorem block10 (hP : Pos m) (hO : Ok m) (c : Dev nD) (t : Fin (cfgM m hO).N) (ht : t.val % 9 = 8) (y : S1x1x1536.Idx) :
    k0_pay24 (F := Ideal) (wd m hO t) (accAt m hO c t.val t.isLt) y = F10 m c ((((cfgM m hO).win 10).blk t).view.emb y) := by
  refine Eq.trans ?_ (congrArg (F10 m c) (emb10 m hO t y)).symm
  have hy : y = ix3 0 0 (y 2) := by
    refine (eq_ix3 y).trans ?_
    exact congrArg₂ (fun q r : Fin 1 => ix3 q r _) (Subsingleton.elim _ _) (Subsingleton.elim _ _)
  refine (congrArg (k0_pay24 (F := Ideal) _ _) hy).trans ((pay24_apply _ _ _).trans ?_)
  exact congrArg (fun a => Nums.code a (y 2)) (accM_eq m hP hO c t ht)

theorem mem10 (hO : Ok m) (t : Fin (cfgM m hO).N) (y : S1x1x1536.Idx) (i : S20x1x1536.Idx) (e : (((cfgM m hO).win 10).blk t).view.emb y = i) :
    i ∈ (((cfgM m hO).win 10).blk t).view.set := by
  subst e
  exact (((cfgM m hO).win 10).blk t).view.emb_mem_set y

theorem cover10 (hO : Ok m) (i : S20x1x1536.Idx) :
    ∃ t : Fin (cfgM m hO).N, ((cfgM m hO).win 10).flush t = true ∧ i ∈ (((cfgM m hO).win 10).blk t).view.set := by
  have h0 : (i 0).val < 20 := (i 0).isLt
  have h1 : (i 1).val < 1 := (i 1).isLt
  refine ⟨ptOf m hO (i 0) 8, (flush0_10 _ _).mpr (by show ((i 0).val * 9 + 8) % 9 = 8; omega), ?_⟩
  have e : (((cfgM m hO).win 10).blk (ptOf m hO (i 0) 8)).view.emb (ix3 0 0 (i 2) : S1x1x1536.Idx) = i := by
    refine (emb10 m hO _ _).trans (funext fun a => Fin.ext ?_)
    match a with
    | ⟨0, _⟩ => show ((i 0).val * 9 + 8) / 9 = (i 0).val; omega
    | ⟨1, _⟩ => show 0 = (i 1).val; omega
    | ⟨2, _⟩ => rfl
  exact mem10 m hO _ _ i e

theorem block11 (hP : Pos m) (hO : Ok m) (c : Dev nD) (t : Fin (cfgM m hO).N) (ht : t.val % 9 = 8) (y : S1x1x128.Idx) :
    k0_pay11 (k0_pay25 (wd m hO t) (accAt m hO c t.val t.isLt)) y = F11 m c ((((cfgM m hO).win 11).blk t).view.emb y) := by
  refine Eq.trans ?_ (congrArg (F11 m c) (emb11 m hO t y)).symm
  have hy : y = ix3 0 0 (y 2) := by
    refine (eq_ix3 y).trans ?_
    exact congrArg₂ (fun q r : Fin 1 => ix3 q r _) (Subsingleton.elim _ _) (Subsingleton.elim _ _)
  refine (congrArg (k0_pay11 (F := Ideal) _) hy).trans ((pay25_apply _ _ _).trans ?_)
  exact congrArg Nums.scale (accM_eq m hP hO c t ht)

theorem mem11 (hO : Ok m) (t : Fin (cfgM m hO).N) (y : S1x1x128.Idx) (i : S20x1x128.Idx) (e : (((cfgM m hO).win 11).blk t).view.emb y = i) :
    i ∈ (((cfgM m hO).win 11).blk t).view.set := by
  subst e
  exact (((cfgM m hO).win 11).blk t).view.emb_mem_set y

theorem cover11 (hO : Ok m) (i : S20x1x128.Idx) :
    ∃ t : Fin (cfgM m hO).N, ((cfgM m hO).win 11).flush t = true ∧ i ∈ (((cfgM m hO).win 11).blk t).view.set := by
  have h0 : (i 0).val < 20 := (i 0).isLt
  have h1 : (i 1).val < 1 := (i 1).isLt
  refine ⟨ptOf m hO (i 0) 8, (flush0_11 _ _).mpr (by show ((i 0).val * 9 + 8) % 9 = 8; omega), ?_⟩
  have e : (((cfgM m hO).win 11).blk (ptOf m hO (i 0) 8)).view.emb (ix3 0 0 (i 2) : S1x1x128.Idx) = i := by
    refine (emb11 m hO _ _).trans (funext fun a => Fin.ext ?_)
    match a with
    | ⟨0, _⟩ => show ((i 0).val * 9 + 8) / 9 = (i 0).val; omega
    | ⟨1, _⟩ => show 0 = (i 1).val; omega
    | ⟨2, _⟩ => rfl
  exact mem11 m hO _ _ i e

/-! ### The arrays after the run -/

theorem final8 (hP : Pos m) (hO : Ok m) (c : Dev nD) : (dats m hO 0 c).arrAt 8 (cfgM m hO).N = F8 m c :=
  (dats m hO 0 c).arrAt_eq_of_emb 8 (F8 m c)
    (fun t _ y => (congrFun (after0_8 m hO c t) y).trans (block8 m hP hO c t y)) (cover8 m hO)

theorem final9 (hP : Pos m) (hO : Ok m) (c : Dev nD) : (dats m hO 0 c).arrAt 9 (cfgM m hO).N = F9 m c :=
  (dats m hO 0 c).arrAt_eq_of_emb 9 (F9 m c)
    (fun t hf y => (congrFun (after0_9 m hO c t) y).trans (block9 m hP hO c t ((flush0_9 _ t).mp hf) y)) (cover9 m hO)

theorem final10 (hP : Pos m) (hO : Ok m) (c : Dev nD) : (dats m hO 0 c).arrAt 10 (cfgM m hO).N = F10 m c :=
  (dats m hO 0 c).arrAt_eq_of_emb 10 (F10 m c)
    (fun t hf y => (congrFun (after0_10 m hO c t) y).trans (block10 m hP hO c t ((flush0_10 _ t).mp hf) y)) (cover10 m hO)

theorem final11 (hP : Pos m) (hO : Ok m) (c : Dev nD) : (dats m hO 0 c).arrAt 11 (cfgM m hO).N = F11 m c :=
  (dats m hO 0 c).arrAt_eq_of_emb 11 (F11 m c)
    (fun t hf y => (congrFun (after0_11 m hO c t) y).trans (block11 m hP hO c t ((flush0_11 _ t).mp hf) y)) (cover11 m hO)

end Cert.KernelIdeal.Pool

end
-- ==== Proof.KernelIdeal.Value.lean ====
/- The run of the kernel, read: its four results are the reference's functions of the same arguments. -/
module

public import proofs.«01_k».proof.Proof.KernelIdeal.Arrays
public import Idealize.ShloMosaic.Lib.Claim

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ### The host's lines after the region, at any contents -/

theorem tail5 (E : Valuation τ sig (Elt Ideal)) (x : Vec Ideal S20x1x1536 .f32) (h : E (Proc.devRef .tc main_v4_1) = x) :
    StableHlo.after (hostOps1 : List (HloOp τ sig (Elt Ideal))) E (Proc.devRef .tc main_v5) = (fun j => shapeCast S20x1536 x shapeCasts_S20x1x1536_S20x1536 j : Vec Ideal S20x1536 .f32) := by
  subst h
  unfold hostOps1
  after_results
  rfl

theorem tail6 (E : Valuation τ sig (Elt Ideal)) (x : Vec Ideal S20x1x1536 .i8) (h : E (Proc.devRef .tc main_v4_2) = x) :
    StableHlo.after (hostOps1 : List (HloOp τ sig (Elt Ideal))) E (Proc.devRef .tc main_v6) = (fun j => shapeCast S20x1536 x shapeCasts_S20x1x1536_S20x1536 j : Vec Ideal S20x1536 .i8) := by
  subst h
  unfold hostOps1
  after_results
  rfl

theorem tail8 (E : Valuation τ sig (Elt Ideal)) (x : Vec Ideal S20x1x128 .f32) (h : E (Proc.devRef .tc main_v4_3) = x) :
    StableHlo.after (hostOps1 : List (HloOp τ sig (Elt Ideal))) E (Proc.devRef .tc main_v8)
      = (fun j => shapeCast S20 (extractStridedSlice S20x1x1 ![0, 0, 0] x slices_S20x1x128_S20x1x1_0_0_0) shapeCasts_S20x1x1_S20 j : Vec Ideal S20 .f32) := by
  subst h
  unfold hostOps1
  after_results
  rfl

/-! ### What they leave is the reference's -/

/-- The contents the region leaves. -/
abbrev exitV (hO : Ok m) (c : Dev nD) : Valuation τ sig (Elt Ideal) :=
  Pipeline.withArrays spec0 c (V0 m c) fun w => (dats m hO 0 c).arrAt w (cfgM m hO).N

theorem F8_eq (c : Dev nD) : F8 m c = ReferenceIdeal.Whole.G9 (F := Ideal) (A0 m c) (A1 m c) (A2 m c) (A3 m c) (A4 m c) (A5 m c) (A6 m c) (A7 m c) (A8 m c) := by
  funext j
  rw [eq_ix3 j]
  exact (ReferenceIdeal.Whole.G9_apply (A0 m c) (A1 m c) (A2 m c) (A3 m c) (A4 m c) (A5 m c) (A6 m c) (A7 m c) (A8 m c) (j 0) (j 1) (j 2)).symm

theorem res5 (hP : Pos m) (hO : Ok m) (c : Dev nD) :
    Pipeline.afterTail pcfgs (fun _ => adm m hO) (dats m hO) 0 (V0 m) [hostOps1] c main_v5 = ReferenceIdeal.Whole.G10 (F := Ideal) (A0 m c) (A1 m c) (A2 m c) (A3 m c) (A4 m c) (A5 m c) (A6 m c) (A7 m c) (A8 m c) := by
  refine (tail5 (exitV m hO c) (F9 m c) ((Pipeline.withArrays_arr spec0 winFacts0.arr_inj c (V0 m c) _ 9).trans (final9 m hP hO c))).trans ?_
  funext j
  rw [eq_ix2 j]
  refine Eq.trans ?_ (ReferenceIdeal.Whole.G10_apply (A0 m c) (A1 m c) (A2 m c) (A3 m c) (A4 m c) (A5 m c) (A6 m c) (A7 m c) (A8 m c) (j 0) (j 1)).symm
  pointwise
  rfl

theorem res6 (hP : Pos m) (hO : Ok m) (c : Dev nD) :
    Pipeline.afterTail pcfgs (fun _ => adm m hO) (dats m hO) 0 (V0 m) [hostOps1] c main_v6 = ReferenceIdeal.Whole.G11 (F := Ideal) (A0 m c) (A1 m c) (A2 m c) (A3 m c) (A4 m c) (A5 m c) (A6 m c) (A7 m c) (A8 m c) := by
  refine (tail6 (exitV m hO c) (F10 m c) ((Pipeline.withArrays_arr spec0 winFacts0.arr_inj c (V0 m c) _ 10).trans (final10 m hP hO c))).trans ?_
  funext j
  rw [eq_ix2 j]
  refine Eq.trans ?_ (ReferenceIdeal.Whole.G11_apply (A0 m c) (A1 m c) (A2 m c) (A3 m c) (A4 m c) (A5 m c) (A6 m c) (A7 m c) (A8 m c) (j 0) (j 1)).symm
  pointwise
  rfl

theorem res8 (hP : Pos m) (hO : Ok m) (c : Dev nD) :
    Pipeline.afterTail pcfgs (fun _ => adm m hO) (dats m hO) 0 (V0 m) [hostOps1] c main_v8 = ReferenceIdeal.Whole.G12 (F := Ideal) (A0 m c) (A1 m c) (A2 m c) (A3 m c) (A4 m c) (A5 m c) (A6 m c) (A7 m c) (A8 m c) := by
  refine (tail8 (exitV m hO c) (F11 m c) ((Pipeline.withArrays_arr spec0 winFacts0.arr_inj c (V0 m c) _ 11).trans (final11 m hP hO c))).trans ?_
  funext j
  rw [eq_ix1 j]
  refine Eq.trans ?_ (ReferenceIdeal.Whole.G12_apply (A0 m c) (A1 m c) (A2 m c) (A3 m c) (A4 m c) (A5 m c) (A6 m c) (A7 m c) (A8 m c) (j 0)).symm
  pointwise
  rfl

/-! ### The run -/

/-- The kernel's four results, at every final state. -/
theorem results (hP : Pos m) (hO : Ok m) (hA : Act m) : θ_run defs (onTc (τ := τ) (main (F := Ideal))) ⟨m, fun _ => 0, ρ⟩ (fun r => ∀ c : Dev nD,
      r.2.mem ((c.tc : Thread nD τ).loc main_v4_0) = ReferenceIdeal.Whole.G9 (F := Ideal) (A0 m c) (A1 m c) (A2 m c) (A3 m c) (A4 m c) (A5 m c) (A6 m c) (A7 m c) (A8 m c)
      ∧ r.2.mem ((c.tc : Thread nD τ).loc main_v5) = ReferenceIdeal.Whole.G10 (F := Ideal) (A0 m c) (A1 m c) (A2 m c) (A3 m c) (A4 m c) (A5 m c) (A6 m c) (A7 m c) (A8 m c)
      ∧ r.2.mem ((c.tc : Thread nD τ).loc main_v6) = ReferenceIdeal.Whole.G11 (F := Ideal) (A0 m c) (A1 m c) (A2 m c) (A3 m c) (A4 m c) (A5 m c) (A6 m c) (A7 m c) (A8 m c)
      ∧ r.2.mem ((c.tc : Thread nD τ).loc main_v8) = ReferenceIdeal.Whole.G12 (F := Ideal) (A0 m c) (A1 m c) (A2 m c) (A3 m c) (A4 m c) (A5 m c) (A6 m c) (A7 m c) (A8 m c)) :=
  (θ_run defs _ _).mono (fun _ h c => ⟨((h c).1 8).trans ((final8 m hP hO c).trans (F8_eq m c)),
      ((h c).2 main_v5 (by decide : main_v5 ∈ Pipeline.restRefs sig spec0)).trans (res5 m hP hO c),
      ((h c).2 main_v6 (by decide : main_v6 ∈ Pipeline.restRefs sig spec0)).trans (res6 m hP hO c),
      ((h c).2 main_v8 (by decide : main_v8 ∈ Pipeline.restRefs sig spec0)).trans (res8 m hP hO c)⟩) (run_main m ρ hO hA)

/-- The run, read: the results beside the unchanged arguments. -/
theorem run (hP : Pos m) : θ_run defs (onTc (τ := τ) (main (F := Ideal))) ⟨m, fun _ => 0, ρ⟩ (fun r => ∀ c : Dev nD,
      r.2.mem ((c.tc : Thread nD τ).loc main_v4_0) = ReferenceIdeal.Whole.G9 (F := Ideal) (A0 m c) (A1 m c) (A2 m c) (A3 m c) (A4 m c) (A5 m c) (A6 m c) (A7 m c) (A8 m c)
      ∧ r.2.mem ((c.tc : Thread nD τ).loc main_v5) = ReferenceIdeal.Whole.G10 (F := Ideal) (A0 m c) (A1 m c) (A2 m c) (A3 m c) (A4 m c) (A5 m c) (A6 m c) (A7 m c) (A8 m c)
      ∧ r.2.mem ((c.tc : Thread nD τ).loc main_v6) = ReferenceIdeal.Whole.G11 (F := Ideal) (A0 m c) (A1 m c) (A2 m c) (A3 m c) (A4 m c) (A5 m c) (A6 m c) (A7 m c) (A8 m c)
      ∧ r.2.mem ((c.tc : Thread nD τ).loc main_v8) = ReferenceIdeal.Whole.G12 (F := Ideal) (A0 m c) (A1 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1, (h.1 c).2.1, (h.1 c).2.2.1, (h.1 c).2.2.2, h.2 c⟩)
    (θ_run_and (results m ρ hP (ok_of_pos hP) (act_of_pos hP)) (unchanged m ρ (ok_of_pos hP) (act_of_pos hP)))

end Cert.KernelIdeal.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_positive
public import proofs.«01_k».proof.Proof.Kernel.Pre
public import proofs.«01_k».proof.Proof.KernelIdeal.Pre
public import proofs.«01_k».proof.Proof.KernelIdeal.Value
public import proofs.«01_k».proof.Proof.Reference.Run
public import Idealize.ShloMosaic.Adequacy
public import Idealize.ShloMosaic.Init

@[expose] public section

noncomputable section

namespace Cert.Proof

open Idealize.ShloMosaic Idealize.SL.Sem Cert.Kernel

set_option maxHeartbeats 800000 in
/-- The idealized kernel and the idealized reference, from the same arguments, leave the same four results. -/
theorem values : @Cert.algebraic_KernelIdeal_ReferenceIdeal Cert.KernelIdeal.Gen.facts Cert.ReferenceIdeal.Gen.facts Cert.Pre_positive.Gen.facts :=
  fun m g m' g' hpre hagree => ⟨fun c => Cert.ReferenceIdeal.Whole.G9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Whole.G10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Whole.G11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Whole.G12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Pool.run m g (Cert.KernelIdeal.Pool.pos_of_pre hpre),
    (θ_run Cert.ReferenceIdeal.defs _ _).mono (fun r h c => by
      obtain ⟨a0, a1, a2, a3, a4, a5, a6, a7, a8⟩ := hagree c
      obtain ⟨h0, h1, h2, h3, hk⟩ := h c
      rw [a0, a1, a2, a3, a4, a5, a6, a7, a8] at h0 h1 h2 h3
      exact ⟨h0, h1, h2, h3, hk⟩) (Cert.ReferenceIdeal.Whole.run (F := Ideal) m' g')⟩

/-- Everything claimed. -/
theorem claim : Cert.Claim := ⟨Cert.Kernel.Gen.facts, Cert.KernelIdeal.Gen.facts, Cert.ReferenceIdeal.Gen.facts, Cert.Pre_positive.Gen.facts,
  fun m g h => Cert.Kernel.Pool.frame m g (Cert.Kernel.Pool.ok_of_pos (Cert.Kernel.Pool.pos_of_pre h)) (Cert.Kernel.Pool.act_of_pos (Cert.Kernel.Pool.pos_of_pre h)),
  fun m g h => Cert.KernelIdeal.Pool.frame m g (Cert.KernelIdeal.Pool.ok_of_pos (Cert.KernelIdeal.Pool.pos_of_pre h)) (Cert.KernelIdeal.Pool.act_of_pos (Cert.KernelIdeal.Pool.pos_of_pre h)),
  fun m g _ => Cert.ReferenceIdeal.Gen.frame m g,
  fun m g _ => Cert.ReferenceIdeal.Gen.frame m g,
  trivial,
  values⟩

end Cert.Proof

end
